-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64 : Shape := ⟨2, ![1024, 64]⟩
abbrev S64x1024 : Shape := ⟨2, ![64, 1024]⟩
abbrev S16x2 : Shape := ⟨2, ![16, 2]⟩
abbrev S1024x1024 : Shape := ⟨2, ![1024, 1024]⟩
abbrev S960x1024 : Shape := ⟨2, ![960, 1024]⟩
abbrev S2x1024x512 : Shape := ⟨3, ![2, 1024, 512]⟩
abbrev S2x8x2 : Shape := ⟨3, ![2, 8, 2]⟩
abbrev S2 : Shape := ⟨1, ![2]⟩
abbrev S1x1 : Shape := ⟨2, ![1, 1]⟩
abbrev S_ : Shape := ⟨0, ![]⟩
abbrev S1x1x1 : Shape := ⟨3, ![1, 1, 1]⟩
abbrev S32x1024 : Shape := ⟨2, ![32, 1024]⟩
abbrev S64x512 : Shape := ⟨2, ![64, 512]⟩
abbrev S1024x512 : Shape := ⟨2, ![1024, 512]⟩
abbrev S128x1024 : Shape := ⟨2, ![128, 1024]⟩
abbrev S128x512 : Shape := ⟨2, ![128, 512]⟩
abbrev S1x1024x512 : Shape := ⟨3, ![1, 1024, 512]⟩
abbrev S1 : Shape := ⟨1, ![1]⟩

abbrev nBuf : Space → Nat
  | .hbm => 5
  | .vmem => 6
  | .smem => 1
  | _ => 0

abbrev bufTy : (tb : Table) → Fin (tcTables nBuf tb) → BufTy
  | .hbm, ⟨0, _⟩ => ⟨S1024x64, .bf16⟩
  | .hbm, ⟨1, _⟩ => ⟨S64x1024, .bf16⟩
  | .hbm, ⟨2, _⟩ => ⟨S16x2, .i32⟩
  | .hbm, ⟨3, _⟩ => ⟨S64x1024, .bf16⟩
  | .hbm, ⟨4, _⟩ => ⟨S1024x1024, .f32⟩
  | .local _ .vmem, ⟨0, _⟩ => ⟨S64x1024, .bf16⟩
  | .local _ .vmem, ⟨1, _⟩ => ⟨S64x1024, .bf16⟩
  | .local _ .vmem, ⟨2, _⟩ => ⟨S960x1024, .bf16⟩
  | .local _ .vmem, ⟨3, _⟩ => ⟨S960x1024, .bf16⟩
  | .local _ .vmem, ⟨4, _⟩ => ⟨S64x1024, .bf16⟩
  | .local _ .vmem, ⟨5, _⟩ => ⟨S2x1024x512, .f32⟩
  | .local _ .smem, ⟨0, _⟩ => ⟨S16x2, .i32⟩
  | _, _ => ⟨S1024x64, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 1 → Bool
  | ⟨0, _⟩ => false
  | _ => false

abbrev dmaSemScoped : Fin 133 → Bool
  | ⟨i, _⟩ => dmaSemScopedAt i

abbrev sig : RefSig :=
  (ofTc nBuf bufTy 1 133 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : Index := Scalar.indexCast v2
  let c0 : Index := 0#32
  ![v3.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v5 : Index := Scalar.indexCast v2
  let c1 : Index := 1#32
  ![v5.toNat, 1]
def k0_dev1 (v4 : BitVec 32) : Nat :=
  let c0_i32 : BitVec 32 := 0#32
  let c1_i32_1 : BitVec 32 := 1#32
  let v8 : BitVec 32 := Scalar.muli v4 c1_i32_1
  let v9 : BitVec 32 := Scalar.addi c0_i32 v8
  v9.toNat

def k0_dev2 (v6 : BitVec 32) : Nat :=
  let c0_i32_4 : BitVec 32 := 0#32
  let c1_i32_3 : BitVec 32 := 1#32
  let v10 : BitVec 32 := Scalar.muli v6 c1_i32_3
  let v11 : BitVec 32 := Scalar.addi c0_i32_4 v10
  v11.toNat

def k0_dev3 (v4 : BitVec 32) : Nat :=
  let c0_i32_16 : BitVec 32 := 0#32
  let c1_i32_15 : BitVec 32 := 1#32
  let v17 : BitVec 32 := Scalar.muli v4 c1_i32_15
  let v18 : BitVec 32 := Scalar.addi c0_i32_16 v17
  v18.toNat
def k0_dev4 (v4 : BitVec 32) : Nat :=
  let c0_i32_28 : BitVec 32 := 0#32
  let c1_i32_27 : BitVec 32 := 1#32
  let v25 : BitVec 32 := Scalar.muli v4 c1_i32_27
  let v26 : BitVec 32 := Scalar.addi c0_i32_28 v25
  v26.toNat
def k0_dev5 (v4 : BitVec 32) : Nat :=
  let c0_i32_39 : BitVec 32 := 0#32
  let c1_i32_38 : BitVec 32 := 1#32
  let v33 : BitVec 32 := Scalar.muli v4 c1_i32_38
  let v34 : BitVec 32 := Scalar.addi c0_i32_39 v33
  v34.toNat
def k0_dev6 (v4 : BitVec 32) : Nat :=
  let c0_i32_51 : BitVec 32 := 0#32
  let c1_i32_50 : BitVec 32 := 1#32
  let v41 : BitVec 32 := Scalar.muli v4 c1_i32_50
  let v42 : BitVec 32 := Scalar.addi c0_i32_51 v41
  v42.toNat
def k0_dev7 (v6 : BitVec 32) : Nat :=
  let c0_i32_63 : BitVec 32 := 0#32
  let c1_i32_62 : BitVec 32 := 1#32
  let v49 : BitVec 32 := Scalar.muli v6 c1_i32_62
  let v50 : BitVec 32 := Scalar.addi c0_i32_63 v49
  v50.toNat
def k0_dev8 (v6 : BitVec 32) : Nat :=
  let c0_i32_74 : BitVec 32 := 0#32
  let c1_i32_73 : BitVec 32 := 1#32
  let v57 : BitVec 32 := Scalar.muli v6 c1_i32_73
  let v58 : BitVec 32 := Scalar.addi c0_i32_74 v57
  v58.toNat
def k0_dev9 (v6 : BitVec 32) : Nat :=
  let c0_i32_85 : BitVec 32 := 0#32
  let c1_i32_84 : BitVec 32 := 1#32
  let v65 : BitVec 32 := Scalar.muli v6 c1_i32_84
  let v66 : BitVec 32 := Scalar.addi c0_i32_85 v65
  v66.toNat
def k0_dev10 (v6 : BitVec 32) : Nat :=
  let c0_i32_97 : BitVec 32 := 0#32
  let c1_i32_96 : BitVec 32 := 1#32
  let v73 : BitVec 32 := Scalar.muli v6 c1_i32_96
  let v74 : BitVec 32 := Scalar.addi c0_i32_97 v73
  v74.toNat
def k0_dev11 (v4 : BitVec 32) : Nat :=
  let c0_i32_129 : BitVec 32 := 0#32
  let c1_i32_128 : BitVec 32 := 1#32
  let v95 : BitVec 32 := Scalar.muli v4 c1_i32_128
  let v96 : BitVec 32 := Scalar.addi c0_i32_129 v95
  v96.toNat
def k0_dev12 (v6 : BitVec 32) : Nat :=
  let c0_i32_152 : BitVec 32 := 0#32
  let c1_i32_151 : BitVec 32 := 1#32
  let v109 : BitVec 32 := Scalar.muli v6 c1_i32_151
  let v110 : BitVec 32 := Scalar.addi c0_i32_152 v109
  v110.toNat
def k0_dev13 (v4 : BitVec 32) : Nat :=
  let c0_i32_175 : BitVec 32 := 0#32
  let c1_i32_174 : BitVec 32 := 1#32
  let v123 : BitVec 32 := Scalar.muli v4 c1_i32_174
  let v124 : BitVec 32 := Scalar.addi c0_i32_175 v123
  v124.toNat
def k0_dev14 (v6 : BitVec 32) : Nat :=
  let c0_i32_198 : BitVec 32 := 0#32
  let c1_i32_197 : BitVec 32 := 1#32
  let v137 : BitVec 32 := Scalar.muli v6 c1_i32_197
  let v138 : BitVec 32 := Scalar.addi c0_i32_198 v137
  v138.toNat
def k0_dev15 (v4 : BitVec 32) : Nat :=
  let c0_i32_221 : BitVec 32 := 0#32
  let c1_i32_220 : BitVec 32 := 1#32
  let v151 : BitVec 32 := Scalar.muli v4 c1_i32_220
  let v152 : BitVec 32 := Scalar.addi c0_i32_221 v151
  v152.toNat
def k0_dev16 (v6 : BitVec 32) : Nat :=
  let c0_i32_245 : BitVec 32 := 0#32
  let c1_i32_244 : BitVec 32 := 1#32
  let v165 : BitVec 32 := Scalar.muli v6 c1_i32_244
  let v166 : BitVec 32 := Scalar.addi c0_i32_245 v165
  v166.toNat
def k0_dev17 (v4 : BitVec 32) : Nat :=
  let c0_i32_269 : BitVec 32 := 0#32
  let c1_i32_268 : BitVec 32 := 1#32
  let v179 : BitVec 32 := Scalar.muli v4 c1_i32_268
  let v180 : BitVec 32 := Scalar.addi c0_i32_269 v179
  v180.toNat
def k0_dev18 (v6 : BitVec 32) : Nat :=
  let c0_i32_293 : BitVec 32 := 0#32
  let c1_i32_292 : BitVec 32 := 1#32
  let v193 : BitVec 32 := Scalar.muli v6 c1_i32_292
  let v194 : BitVec 32 := Scalar.addi c0_i32_293 v193
  v194.toNat
def k0_dev19 (v4 : BitVec 32) : Nat :=
  let c0_i32_327 : BitVec 32 := 0#32
  let c1_i32_326 : BitVec 32 := 1#32
  let v215 : BitVec 32 := Scalar.muli v4 c1_i32_326
  let v216 : BitVec 32 := Scalar.addi c0_i32_327 v215
  v216.toNat
def k0_dev20 (v6 : BitVec 32) : Nat :=
  let c0_i32_350 : BitVec 32 := 0#32
  let c1_i32_349 : BitVec 32 := 1#32
  let v229 : BitVec 32 := Scalar.muli v6 c1_i32_349
  let v230 : BitVec 32 := Scalar.addi c0_i32_350 v229
  v230.toNat
def k0_dev21 (v4 : BitVec 32) : Nat :=
  let c0_i32_373 : BitVec 32 := 0#32
  let c1_i32_372 : BitVec 32 := 1#32
  let v243 : BitVec 32 := Scalar.muli v4 c1_i32_372
  let v244 : BitVec 32 := Scalar.addi c0_i32_373 v243
  v244.toNat
def k0_dev22 (v6 : BitVec 32) : Nat :=
  let c0_i32_396 : BitVec 32 := 0#32
  let c1_i32_395 : BitVec 32 := 1#32
  let v257 : BitVec 32 := Scalar.muli v6 c1_i32_395
  let v258 : BitVec 32 := Scalar.addi c0_i32_396 v257
  v258.toNat
def k0_dev23 (v4 : BitVec 32) : Nat :=
  let c0_i32_419 : BitVec 32 := 0#32
  let c1_i32_418 : BitVec 32 := 1#32
  let v271 : BitVec 32 := Scalar.muli v4 c1_i32_418
  let v272 : BitVec 32 := Scalar.addi c0_i32_419 v271
  v272.toNat
def k0_dev24 (v6 : BitVec 32) : Nat :=
  let c0_i32_443 : BitVec 32 := 0#32
  let c1_i32_442 : BitVec 32 := 1#32
  let v285 : BitVec 32 := Scalar.muli v6 c1_i32_442
  let v286 : BitVec 32 := Scalar.addi c0_i32_443 v285
  v286.toNat
def k0_dev25 (v4 : BitVec 32) : Nat :=
  let c0_i32_467 : BitVec 32 := 0#32
  let c1_i32_466 : BitVec 32 := 1#32
  let v299 : BitVec 32 := Scalar.muli v4 c1_i32_466
  let v300 : BitVec 32 := Scalar.addi c0_i32_467 v299
  v300.toNat
def k0_dev26 (v6 : BitVec 32) : Nat :=
  let c0_i32_491 : BitVec 32 := 0#32
  let c1_i32_490 : BitVec 32 := 1#32
  let v313 : BitVec 32 := Scalar.muli v6 c1_i32_490
  let v314 : BitVec 32 := Scalar.addi c0_i32_491 v313
  v314.toNat
def k0_dev27 (v4 : BitVec 32) : Nat :=
  let c0_i32_523 : BitVec 32 := 0#32
  let c1_i32_522 : BitVec 32 := 1#32
  let v335 : BitVec 32 := Scalar.muli v4 c1_i32_522
  let v336 : BitVec 32 := Scalar.addi c0_i32_523 v335
  v336.toNat
def k0_dev28 (v6 : BitVec 32) : Nat :=
  let c0_i32_546 : BitVec 32 := 0#32
  let c1_i32_545 : BitVec 32 := 1#32
  let v349 : BitVec 32 := Scalar.muli v6 c1_i32_545
  let v350 : BitVec 32 := Scalar.addi c0_i32_546 v349
  v350.toNat
def k0_dev29 (v4 : BitVec 32) : Nat :=
  let c0_i32_569 : BitVec 32 := 0#32
  let c1_i32_568 : BitVec 32 := 1#32
  let v363 : BitVec 32 := Scalar.muli v4 c1_i32_568
  let v364 : BitVec 32 := Scalar.addi c0_i32_569 v363
  v364.toNat
def k0_dev30 (v6 : BitVec 32) : Nat :=
  let c0_i32_592 : BitVec 32 := 0#32
  let c1_i32_591 : BitVec 32 := 1#32
  let v377 : BitVec 32 := Scalar.muli v6 c1_i32_591
  let v378 : BitVec 32 := Scalar.addi c0_i32_592 v377
  v378.toNat
def k0_dev31 (v4 : BitVec 32) : Nat :=
  let c0_i32_615 : BitVec 32 := 0#32
  let c1_i32_614 : BitVec 32 := 1#32
  let v391 : BitVec 32 := Scalar.muli v4 c1_i32_614
  let v392 : BitVec 32 := Scalar.addi c0_i32_615 v391
  v392.toNat
def k0_dev32 (v6 : BitVec 32) : Nat :=
  let c0_i32_639 : BitVec 32 := 0#32
  let c1_i32_638 : BitVec 32 := 1#32
  let v405 : BitVec 32 := Scalar.muli v6 c1_i32_638
  let v406 : BitVec 32 := Scalar.addi c0_i32_639 v405
  v406.toNat
def k0_dev33 (v4 : BitVec 32) : Nat :=
  let c0_i32_663 : BitVec 32 := 0#32
  let c1_i32_662 : BitVec 32 := 1#32
  let v419 : BitVec 32 := Scalar.muli v4 c1_i32_662
  let v420 : BitVec 32 := Scalar.addi c0_i32_663 v419
  v420.toNat
def k0_dev34 (v6 : BitVec 32) : Nat :=
  let c0_i32_687 : BitVec 32 := 0#32
  let c1_i32_686 : BitVec 32 := 1#32
  let v433 : BitVec 32 := Scalar.muli v6 c1_i32_686
  let v434 : BitVec 32 := Scalar.addi c0_i32_687 v433
  v434.toNat
def k0_dev35 (v4 : BitVec 32) : Nat :=
  let c0_i32_719 : BitVec 32 := 0#32
  let c1_i32_718 : BitVec 32 := 1#32
  let v455 : BitVec 32 := Scalar.muli v4 c1_i32_718
  let v456 : BitVec 32 := Scalar.addi c0_i32_719 v455
  v456.toNat
def k0_dev36 (v6 : BitVec 32) : Nat :=
  let c0_i32_742 : BitVec 32 := 0#32
  let c1_i32_741 : BitVec 32 := 1#32
  let v469 : BitVec 32 := Scalar.muli v6 c1_i32_741
  let v470 : BitVec 32 := Scalar.addi c0_i32_742 v469
  v470.toNat
def k0_dev37 (v4 : BitVec 32) : Nat :=
  let c0_i32_765 : BitVec 32 := 0#32
  let c1_i32_764 : BitVec 32 := 1#32
  let v483 : BitVec 32 := Scalar.muli v4 c1_i32_764
  let v484 : BitVec 32 := Scalar.addi c0_i32_765 v483
  v484.toNat
def k0_dev38 (v6 : BitVec 32) : Nat :=
  let c0_i32_788 : BitVec 32 := 0#32
  let c1_i32_787 : BitVec 32 := 1#32
  let v497 : BitVec 32 := Scalar.muli v6 c1_i32_787
  let v498 : BitVec 32 := Scalar.addi c0_i32_788 v497
  v498.toNat
def k0_dev39 (v4 : BitVec 32) : Nat :=
  let c0_i32_811 : BitVec 32 := 0#32
  let c1_i32_810 : BitVec 32 := 1#32
  let v511 : BitVec 32 := Scalar.muli v4 c1_i32_810
  let v512 : BitVec 32 := Scalar.addi c0_i32_811 v511
  v512.toNat
def k0_dev40 (v6 : BitVec 32) : Nat :=
  let c0_i32_835 : BitVec 32 := 0#32
  let c1_i32_834 : BitVec 32 := 1#32
  let v525 : BitVec 32 := Scalar.muli v6 c1_i32_834
  let v526 : BitVec 32 := Scalar.addi c0_i32_835 v525
  v526.toNat
def k0_dev41 (v4 : BitVec 32) : Nat :=
  let c0_i32_859 : BitVec 32 := 0#32
  let c1_i32_858 : BitVec 32 := 1#32
  let v539 : BitVec 32 := Scalar.muli v4 c1_i32_858
  let v540 : BitVec 32 := Scalar.addi c0_i32_859 v539
  v540.toNat
def k0_dev42 (v6 : BitVec 32) : Nat :=
  let c0_i32_883 : BitVec 32 := 0#32
  let c1_i32_882 : BitVec 32 := 1#32
  let v553 : BitVec 32 := Scalar.muli v6 c1_i32_882
  let v554 : BitVec 32 := Scalar.addi c0_i32_883 v553
  v554.toNat
def k0_dev43 (v4 : BitVec 32) : Nat :=
  let c0_i32_915 : BitVec 32 := 0#32
  let c1_i32_914 : BitVec 32 := 1#32
  let v575 : BitVec 32 := Scalar.muli v4 c1_i32_914
  let v576 : BitVec 32 := Scalar.addi c0_i32_915 v575
  v576.toNat
def k0_dev44 (v6 : BitVec 32) : Nat :=
  let c0_i32_938 : BitVec 32 := 0#32
  let c1_i32_937 : BitVec 32 := 1#32
  let v589 : BitVec 32 := Scalar.muli v6 c1_i32_937
  let v590 : BitVec 32 := Scalar.addi c0_i32_938 v589
  v590.toNat
def k0_dev45 (v4 : BitVec 32) : Nat :=
  let c0_i32_961 : BitVec 32 := 0#32
  let c1_i32_960 : BitVec 32 := 1#32
  let v603 : BitVec 32 := Scalar.muli v4 c1_i32_960
  let v604 : BitVec 32 := Scalar.addi c0_i32_961 v603
  v604.toNat
def k0_dev46 (v6 : BitVec 32) : Nat :=
  let c0_i32_984 : BitVec 32 := 0#32
  let c1_i32_983 : BitVec 32 := 1#32
  let v617 : BitVec 32 := Scalar.muli v6 c1_i32_983
  let v618 : BitVec 32 := Scalar.addi c0_i32_984 v617
  v618.toNat
def k0_dev47 (v4 : BitVec 32) : Nat :=
  let c0_i32_1007 : BitVec 32 := 0#32
  let c1_i32_1006 : BitVec 32 := 1#32
  let v631 : BitVec 32 := Scalar.muli v4 c1_i32_1006
  let v632 : BitVec 32 := Scalar.addi c0_i32_1007 v631
  v632.toNat
def k0_dev48 (v6 : BitVec 32) : Nat :=
  let c0_i32_1031 : BitVec 32 := 0#32
  let c1_i32_1030 : BitVec 32 := 1#32
  let v645 : BitVec 32 := Scalar.muli v6 c1_i32_1030
  let v646 : BitVec 32 := Scalar.addi c0_i32_1031 v645
  v646.toNat
def k0_dev49 (v4 : BitVec 32) : Nat :=
  let c0_i32_1055 : BitVec 32 := 0#32
  let c1_i32_1054 : BitVec 32 := 1#32
  let v659 : BitVec 32 := Scalar.muli v4 c1_i32_1054
  let v660 : BitVec 32 := Scalar.addi c0_i32_1055 v659
  v660.toNat
def k0_dev50 (v6 : BitVec 32) : Nat :=
  let c0_i32_1079 : BitVec 32 := 0#32
  let c1_i32_1078 : BitVec 32 := 1#32
  let v673 : BitVec 32 := Scalar.muli v6 c1_i32_1078
  let v674 : BitVec 32 := Scalar.addi c0_i32_1079 v673
  v674.toNat
def k0_dev51 (v4 : BitVec 32) : Nat :=
  let c0_i32_1112 : BitVec 32 := 0#32
  let c1_i32_1111 : BitVec 32 := 1#32
  let v695 : BitVec 32 := Scalar.muli v4 c1_i32_1111
  let v696 : BitVec 32 := Scalar.addi c0_i32_1112 v695
  v696.toNat
def k0_dev52 (v6 : BitVec 32) : Nat :=
  let c0_i32_1135 : BitVec 32 := 0#32
  let c1_i32_1134 : BitVec 32 := 1#32
  let v709 : BitVec 32 := Scalar.muli v6 c1_i32_1134
  let v710 : BitVec 32 := Scalar.addi c0_i32_1135 v709
  v710.toNat
def k0_dev53 (v4 : BitVec 32) : Nat :=
  let c0_i32_1158 : BitVec 32 := 0#32
  let c1_i32_1157 : BitVec 32 := 1#32
  let v723 : BitVec 32 := Scalar.muli v4 c1_i32_1157
  let v724 : BitVec 32 := Scalar.addi c0_i32_1158 v723
  v724.toNat
def k0_dev54 (v6 : BitVec 32) : Nat :=
  let c0_i32_1181 : BitVec 32 := 0#32
  let c1_i32_1180 : BitVec 32 := 1#32
  let v737 : BitVec 32 := Scalar.muli v6 c1_i32_1180
  let v738 : BitVec 32 := Scalar.addi c0_i32_1181 v737
  v738.toNat
def k0_dev55 (v4 : BitVec 32) : Nat :=
  let c0_i32_1204 : BitVec 32 := 0#32
  let c1_i32_1203 : BitVec 32 := 1#32
  let v751 : BitVec 32 := Scalar.muli v4 c1_i32_1203
  let v752 : BitVec 32 := Scalar.addi c0_i32_1204 v751
  v752.toNat
def k0_dev56 (v6 : BitVec 32) : Nat :=
  let c0_i32_1228 : BitVec 32 := 0#32
  let c1_i32_1227 : BitVec 32 := 1#32
  let v765 : BitVec 32 := Scalar.muli v6 c1_i32_1227
  let v766 : BitVec 32 := Scalar.addi c0_i32_1228 v765
  v766.toNat
def k0_dev57 (v4 : BitVec 32) : Nat :=
  let c0_i32_1252 : BitVec 32 := 0#32
  let c1_i32_1251 : BitVec 32 := 1#32
  let v779 : BitVec 32 := Scalar.muli v4 c1_i32_1251
  let v780 : BitVec 32 := Scalar.addi c0_i32_1252 v779
  v780.toNat
def k0_dev58 (v6 : BitVec 32) : Nat :=
  let c0_i32_1276 : BitVec 32 := 0#32
  let c1_i32_1275 : BitVec 32 := 1#32
  let v793 : BitVec 32 := Scalar.muli v6 c1_i32_1275
  let v794 : BitVec 32 := Scalar.addi c0_i32_1276 v793
  v794.toNat

def k0_chk2 (v6 : BitVec 32) : Prop :=
  ((k0_dev2 v6) < nD) ∧
  ((k0_dev7 v6) < nD) ∧
  ((k0_dev8 v6) < nD) ∧
  ((k0_dev9 v6) < nD) ∧
  ((k0_dev10 v6) < nD) ∧
  ((k0_dev12 v6) < nD) ∧
  ((k0_dev14 v6) < nD) ∧
  ((k0_dev16 v6) < nD) ∧
  ((k0_dev18 v6) < nD) ∧
  ((k0_dev20 v6) < nD) ∧
  ((k0_dev22 v6) < nD) ∧
  ((k0_dev24 v6) < nD) ∧
  ((k0_dev26 v6) < nD) ∧
  ((k0_dev28 v6) < nD) ∧
  ((k0_dev30 v6) < nD) ∧
  ((k0_dev32 v6) < nD) ∧
  ((k0_dev34 v6) < nD) ∧
  ((k0_dev36 v6) < nD) ∧
  ((k0_dev38 v6) < nD) ∧
  ((k0_dev40 v6) < nD) ∧
  ((k0_dev42 v6) < nD) ∧
  ((k0_dev44 v6) < nD) ∧
  ((k0_dev46 v6) < nD) ∧
  ((k0_dev48 v6) < nD) ∧
  ((k0_dev50 v6) < nD) ∧
  ((k0_dev52 v6) < nD) ∧
  ((k0_dev54 v6) < nD) ∧
  ((k0_dev56 v6) < nD) ∧
  ((k0_dev58 v6) < nD)
theorem k0_dev2_lt : ∀ (v6 : BitVec 32) (k0_hw2 : k0_chk2 v6), (k0_dev2 v6) < nD := fun v6 k0_hw2 => k0_hw2.1
theorem k0_dev7_lt : ∀ (v6 : BitVec 32) (k0_hw2 : k0_chk2 v6), (k0_dev7 v6) < nD := fun v6 k0_hw2 => k0_hw2.2.1
theorem k0_dev8_lt : ∀ (v6 : BitVec 32) (k0_hw2 : k0_chk2 v6), (k0_dev8 v6) < nD := fun v6 k0_hw2 => k0_hw2.2.2.1
theorem k0_dev9_lt : ∀ (v6 : BitVec 32) (k0_hw2 : k0_chk2 v6), (k0_dev9 v6) < nD := fun v6 k0_hw2 => k0_hw2.2.2.2.1
theorem k0_dev10_lt : ∀ (v6 : BitVec 32) (k0_hw2 : k0_chk2 v6), (k0_dev10 v6) < nD := fun v6 k0_hw2 => k0_hw2.2.2.2.2.1
theorem k0_dev12_lt : ∀ (v6 : BitVec 32) (k0_hw2 : k0_chk2 v6), (k0_dev12 v6) < nD := fun v6 k0_hw2 => k0_hw2.2.2.2.2.2.1
theorem k0_dev14_lt : ∀ (v6 : BitVec 32) (k0_hw2 : k0_chk2 v6), (k0_dev14 v6) < nD := fun v6 k0_hw2 => k0_hw2.2.2.2.2.2.2.1
theorem k0_dev16_lt : ∀ (v6 : BitVec 32) (k0_hw2 : k0_chk2 v6), (k0_dev16 v6) < nD := fun v6 k0_hw2 => k0_hw2.2.2.2.2.2.2.2.1
theorem k0_dev18_lt : ∀ (v6 : BitVec 32) (k0_hw2 : k0_chk2 v6), (k0_dev18 v6) < nD := fun v6 k0_hw2 => k0_hw2.2.2.2.2.2.2.2.2.1
theorem k0_dev20_lt : ∀ (v6 : BitVec 32) (k0_hw2 : k0_chk2 v6), (k0_dev20 v6) < nD := fun v6 k0_hw2 => k0_hw2.2.2.2.2.2.2.2.2.2.1
theorem k0_dev22_lt : ∀ (v6 : BitVec 32) (k0_hw2 : k0_chk2 v6), (k0_dev22 v6) < nD := fun v6 k0_hw2 => k0_hw2.2.2.2.2.2.2.2.2.2.2.1
theorem k0_dev24_lt : ∀ (v6 : BitVec 32) (k0_hw2 : k0_chk2 v6), (k0_dev24 v6) < nD := fun v6 k0_hw2 => k0_hw2.2.2.2.2.2.2.2.2.2.2.2.1
theorem k0_dev26_lt : ∀ (v6 : BitVec 32) (k0_hw2 : k0_chk2 v6), (k0_dev26 v6) < nD := fun v6 k0_hw2 => k0_hw2.2.2.2.2.2.2.2.2.2.2.2.2.1
theorem k0_dev28_lt : ∀ (v6 : BitVec 32) (k0_hw2 : k0_chk2 v6), (k0_dev28 v6) < nD := fun v6 k0_hw2 => k0_hw2.2.2.2.2.2.2.2.2.2.2.2.2.2.1
theorem k0_dev30_lt : ∀ (v6 : BitVec 32) (k0_hw2 : k0_chk2 v6), (k0_dev30 v6) < nD := fun v6 k0_hw2 => k0_hw2.2.2.2.2.2.2.2.2.2.2.2.2.2.2.1
theorem k0_dev32_lt : ∀ (v6 : BitVec 32) (k0_hw2 : k0_chk2 v6), (k0_dev32 v6) < nD := fun v6 k0_hw2 => k0_hw2.2.2.2.2.2.2.2.2.2.2.2.2.2.2.2.1
theorem k0_dev34_lt : ∀ (v6 : BitVec 32) (k0_hw2 : k0_chk2 v6), (k0_dev34 v6) < nD := fun v6 k0_hw2 => k0_hw2.2.2.2.2.2.2.2.2.2.2.2.2.2.2.2.2.1
theorem k0_dev36_lt : ∀ (v6 : BitVec 32) (k0_hw2 : k0_chk2 v6), (k0_dev36 v6) < nD := fun v6 k0_hw2 => k0_hw2.2.2.2.2.2.2.2.2.2.2.2.2.2.2.2.2.2.1
theorem k0_dev38_lt : ∀ (v6 : BitVec 32) (k0_hw2 : k0_chk2 v6), (k0_dev38 v6) < nD := fun v6 k0_hw2 => k0_hw2.2.2.2.2.2.2.2.2.2.2.2.2.2.2.2.2.2.2.1
theorem k0_dev40_lt : ∀ (v6 : BitVec 32) (k0_hw2 : k0_chk2 v6), (k0_dev40 v6) < nD := fun v6 k0_hw2 => k0_hw2.2.2.2.2.2.2.2.2.2.2.2.2.2.2.2.2.2.2.2.1
theorem k0_dev42_lt : ∀ (v6 : BitVec 32) (k0_hw2 : k0_chk2 v6), (k0_dev42 v6) < nD := fun v6 k0_hw2 => k0_hw2.2.2.2.2.2.2.2.2.2.2.2.2.2.2.2.2.2.2.2.2.1
theorem k0_dev44_lt : ∀ (v6 : BitVec 32) (k0_hw2 : k0_chk2 v6), (k0_dev44 v6) < nD := fun v6 k0_hw2 => k0_hw2.2.2.2.2.2.2.2.2.2.2.2.2.2.2.2.2.2.2.2.2.2.1
theorem k0_dev46_lt : ∀ (v6 : BitVec 32) (k0_hw2 : k0_chk2 v6), (k0_dev46 v6) < nD := fun v6 k0_hw2 => k0_hw2.2.2.2.2.2.2.2.2.2.2.2.2.2.2.2.2.2.2.2.2.2.2.1
theorem k0_dev48_lt : ∀ (v6 : BitVec 32) (k0_hw2 : k0_chk2 v6), (k0_dev48 v6) < nD := fun v6 k0_hw2 => k0_hw2.2.2.2.2.2.2.2.2.2.2.2.2.2.2.2.2.2.2.2.2.2.2.2.1
theorem k0_dev50_lt : ∀ (v6 : BitVec 32) (k0_hw2 : k0_chk2 v6), (k0_dev50 v6) < nD := fun v6 k0_hw2 => k0_hw2.2.2.2.2.2.2.2.2.2.2.2.2.2.2.2.2.2.2.2.2.2.2.2.2.1
theorem k0_dev52_lt : ∀ (v6 : BitVec 32) (k0_hw2 : k0_chk2 v6), (k0_dev52 v6) < nD := fun v6 k0_hw2 => k0_hw2.2.2.2.2.2.2.2.2.2.2.2.2.2.2.2.2.2.2.2.2.2.2.2.2.2.1
theorem k0_dev54_lt : ∀ (v6 : BitVec 32) (k0_hw2 : k0_chk2 v6), (k0_dev54 v6) < nD := fun v6 k0_hw2 => k0_hw2.2.2.2.2.2.2.2.2.2.2.2.2.2.2.2.2.2.2.2.2.2.2.2.2.2.2.1
theorem k0_dev56_lt : ∀ (v6 : BitVec 32) (k0_hw2 : k0_chk2 v6), (k0_dev56 v6) < nD := fun v6 k0_hw2 => k0_hw2.2.2.2.2.2.2.2.2.2.2.2.2.2.2.2.2.2.2.2.2.2.2.2.2.2.2.2.1
theorem k0_dev58_lt : ∀ (v6 : BitVec 32) (k0_hw2 : k0_chk2 v6), (k0_dev58 v6) < nD := fun v6 k0_hw2 => k0_hw2.2.2.2.2.2.2.2.2.2.2.2.2.2.2.2.2.2.2.2.2.2.2.2.2.2.2.2.2

def k0_dev59 (v4 : BitVec 32) : Nat :=
  let c0_i32_1308 : BitVec 32 := 0#32
  let c1_i32_1307 : BitVec 32 := 1#32
  let v815 : BitVec 32 := Scalar.muli v4 c1_i32_1307
  let v816 : BitVec 32 := Scalar.addi c0_i32_1308 v815
  v816.toNat
def k0_dev60 (v4 : BitVec 32) : Nat :=
  let c0_i32_1343 : BitVec 32 := 0#32
  let c1_i32_1342 : BitVec 32 := 1#32
  let v835 : BitVec 32 := Scalar.muli v4 c1_i32_1342
  let v836 : BitVec 32 := Scalar.addi c0_i32_1343 v835
  v836.toNat
def k0_dev61 (v4 : BitVec 32) : Nat :=
  let c0_i32_1378 : BitVec 32 := 0#32
  let c1_i32_1377 : BitVec 32 := 1#32
  let v855 : BitVec 32 := Scalar.muli v4 c1_i32_1377
  let v856 : BitVec 32 := Scalar.addi c0_i32_1378 v855
  v856.toNat
def k0_dev62 (v4 : BitVec 32) : Nat :=
  let c0_i32_1414 : BitVec 32 := 0#32
  let c1_i32_1413 : BitVec 32 := 1#32
  let v875 : BitVec 32 := Scalar.muli v4 c1_i32_1413
  let v876 : BitVec 32 := Scalar.addi c0_i32_1414 v875
  v876.toNat

def k0_chk1_0 (v4 : BitVec 32) : Prop :=
  ((k0_dev1 v4) < nD) ∧
  ((k0_dev3 v4) < nD) ∧
  ((k0_dev4 v4) < nD) ∧
  ((k0_dev5 v4) < nD) ∧
  ((k0_dev6 v4) < nD) ∧
  ((k0_dev11 v4) < nD) ∧
  ((k0_dev13 v4) < nD) ∧
  ((k0_dev15 v4) < nD) ∧
  ((k0_dev17 v4) < nD) ∧
  ((k0_dev19 v4) < nD) ∧
  ((k0_dev21 v4) < nD) ∧
  ((k0_dev23 v4) < nD) ∧
  ((k0_dev25 v4) < nD) ∧
  ((k0_dev27 v4) < nD) ∧
  ((k0_dev29 v4) < nD) ∧
  ((k0_dev31 v4) < nD) ∧
  ((k0_dev33 v4) < nD) ∧
  ((k0_dev35 v4) < nD) ∧
  ((k0_dev37 v4) < nD) ∧
  ((k0_dev39 v4) < nD) ∧
  ((k0_dev41 v4) < nD) ∧
  ((k0_dev43 v4) < nD) ∧
  ((k0_dev45 v4) < nD) ∧
  ((k0_dev47 v4) < nD) ∧
  ((k0_dev49 v4) < nD) ∧
  ((k0_dev51 v4) < nD) ∧
  ((k0_dev53 v4) < nD) ∧
  ((k0_dev55 v4) < nD) ∧
  ((k0_dev57 v4) < nD) ∧
  ((k0_dev59 v4) < nD) ∧
  ((k0_dev60 v4) < nD) ∧
  ((k0_dev61 v4) < nD)
def k0_chk1_1 (v4 : BitVec 32) : Prop :=
  ((k0_dev62 v4) < nD)
def k0_chk1 (v4 : BitVec 32) : Prop :=
  k0_chk1_0 v4 ∧
  k0_chk1_1 v4
theorem k0_dev1_lt : ∀ (v4 : BitVec 32) (k0_hw1 : k0_chk1 v4), (k0_dev1 v4) < nD := fun v4 k0_hw1 => k0_hw1.1.1
theorem k0_dev3_lt : ∀ (v4 : BitVec 32) (k0_hw1 : k0_chk1 v4), (k0_dev3 v4) < nD := fun v4 k0_hw1 => k0_hw1.1.2.1
theorem k0_dev4_lt : ∀ (v4 : BitVec 32) (k0_hw1 : k0_chk1 v4), (k0_dev4 v4) < nD := fun v4 k0_hw1 => k0_hw1.1.2.2.1
theorem k0_dev5_lt : ∀ (v4 : BitVec 32) (k0_hw1 : k0_chk1 v4), (k0_dev5 v4) < nD := fun v4 k0_hw1 => k0_hw1.1.2.2.2.1
theorem k0_dev6_lt : ∀ (v4 : BitVec 32) (k0_hw1 : k0_chk1 v4), (k0_dev6 v4) < nD := fun v4 k0_hw1 => k0_hw1.1.2.2.2.2.1
theorem k0_dev11_lt : ∀ (v4 : BitVec 32) (k0_hw1 : k0_chk1 v4), (k0_dev11 v4) < nD := fun v4 k0_hw1 => k0_hw1.1.2.2.2.2.2.1
theorem k0_dev13_lt : ∀ (v4 : BitVec 32) (k0_hw1 : k0_chk1 v4), (k0_dev13 v4) < nD := fun v4 k0_hw1 => k0_hw1.1.2.2.2.2.2.2.1
theorem k0_dev15_lt : ∀ (v4 : BitVec 32) (k0_hw1 : k0_chk1 v4), (k0_dev15 v4) < nD := fun v4 k0_hw1 => k0_hw1.1.2.2.2.2.2.2.2.1
theorem k0_dev17_lt : ∀ (v4 : BitVec 32) (k0_hw1 : k0_chk1 v4), (k0_dev17 v4) < nD := fun v4 k0_hw1 => k0_hw1.1.2.2.2.2.2.2.2.2.1
theorem k0_dev19_lt : ∀ (v4 : BitVec 32) (k0_hw1 : k0_chk1 v4), (k0_dev19 v4) < nD := fun v4 k0_hw1 => k0_hw1.1.2.2.2.2.2.2.2.2.2.1
theorem k0_dev21_lt : ∀ (v4 : BitVec 32) (k0_hw1 : k0_chk1 v4), (k0_dev21 v4) < nD := fun v4 k0_hw1 => k0_hw1.1.2.2.2.2.2.2.2.2.2.2.1
theorem k0_dev23_lt : ∀ (v4 : BitVec 32) (k0_hw1 : k0_chk1 v4), (k0_dev23 v4) < nD := fun v4 k0_hw1 => k0_hw1.1.2.2.2.2.2.2.2.2.2.2.2.1
theorem k0_dev25_lt : ∀ (v4 : BitVec 32) (k0_hw1 : k0_chk1 v4), (k0_dev25 v4) < nD := fun v4 k0_hw1 => k0_hw1.1.2.2.2.2.2.2.2.2.2.2.2.2.1
theorem k0_dev27_lt : ∀ (v4 : BitVec 32) (k0_hw1 : k0_chk1 v4), (k0_dev27 v4) < nD := fun v4 k0_hw1 => k0_hw1.1.2.2.2.2.2.2.2.2.2.2.2.2.2.1
theorem k0_dev29_lt : ∀ (v4 : BitVec 32) (k0_hw1 : k0_chk1 v4), (k0_dev29 v4) < nD := fun v4 k0_hw1 => k0_hw1.1.2.2.2.2.2.2.2.2.2.2.2.2.2.2.1
theorem k0_dev31_lt : ∀ (v4 : BitVec 32) (k0_hw1 : k0_chk1 v4), (k0_dev31 v4) < nD := fun v4 k0_hw1 => k0_hw1.1.2.2.2.2.2.2.2.2.2.2.2.2.2.2.2.1
theorem k0_dev33_lt : ∀ (v4 : BitVec 32) (k0_hw1 : k0_chk1 v4), (k0_dev33 v4) < nD := fun v4 k0_hw1 => k0_hw1.1.2.2.2.2.2.2.2.2.2.2.2.2.2.2.2.2.1
theorem k0_dev35_lt : ∀ (v4 : BitVec 32) (k0_hw1 : k0_chk1 v4), (k0_dev35 v4) < nD := fun v4 k0_hw1 => k0_hw1.1.2.2.2.2.2.2.2.2.2.2.2.2.2.2.2.2.2.1
theorem k0_dev37_lt : ∀ (v4 : BitVec 32) (k0_hw1 : k0_chk1 v4), (k0_dev37 v4) < nD := fun v4 k0_hw1 => k0_hw1.1.2.2.2.2.2.2.2.2.2.2.2.2.2.2.2.2.2.2.1
theorem k0_dev39_lt : ∀ (v4 : BitVec 32) (k0_hw1 : k0_chk1 v4), (k0_dev39 v4) < nD := fun v4 k0_hw1 => k0_hw1.1.2.2.2.2.2.2.2.2.2.2.2.2.2.2.2.2.2.2.2.1
theorem k0_dev41_lt : ∀ (v4 : BitVec 32) (k0_hw1 : k0_chk1 v4), (k0_dev41 v4) < nD := fun v4 k0_hw1 => k0_hw1.1.2.2.2.2.2.2.2.2.2.2.2.2.2.2.2.2.2.2.2.2.1
theorem k0_dev43_lt : ∀ (v4 : BitVec 32) (k0_hw1 : k0_chk1 v4), (k0_dev43 v4) < nD := fun v4 k0_hw1 => k0_hw1.1.2.2.2.2.2.2.2.2.2.2.2.2.2.2.2.2.2.2.2.2.2.1
theorem k0_dev45_lt : ∀ (v4 : BitVec 32) (k0_hw1 : k0_chk1 v4), (k0_dev45 v4) < nD := fun v4 k0_hw1 => k0_hw1.1.2.2.2.2.2.2.2.2.2.2.2.2.2.2.2.2.2.2.2.2.2.2.1
theorem k0_dev47_lt : ∀ (v4 : BitVec 32) (k0_hw1 : k0_chk1 v4), (k0_dev47 v4) < nD := fun v4 k0_hw1 => k0_hw1.1.2.2.2.2.2.2.2.2.2.2.2.2.2.2.2.2.2.2.2.2.2.2.2.1
theorem k0_dev49_lt : ∀ (v4 : BitVec 32) (k0_hw1 : k0_chk1 v4), (k0_dev49 v4) < nD := fun v4 k0_hw1 => k0_hw1.1.2.2.2.2.2.2.2.2.2.2.2.2.2.2.2.2.2.2.2.2.2.2.2.2.1
theorem k0_dev51_lt : ∀ (v4 : BitVec 32) (k0_hw1 : k0_chk1 v4), (k0_dev51 v4) < nD := fun v4 k0_hw1 => k0_hw1.1.2.2.2.2.2.2.2.2.2.2.2.2.2.2.2.2.2.2.2.2.2.2.2.2.2.1
theorem k0_dev53_lt : ∀ (v4 : BitVec 32) (k0_hw1 : k0_chk1 v4), (k0_dev53 v4) < nD := fun v4 k0_hw1 => k0_hw1.1.2.2.2.2.2.2.2.2.2.2.2.2.2.2.2.2.2.2.2.2.2.2.2.2.2.2.1
theorem k0_dev55_lt : ∀ (v4 : BitVec 32) (k0_hw1 : k0_chk1 v4), (k0_dev55 v4) < nD := fun v4 k0_hw1 => k0_hw1.1.2.2.2.2.2.2.2.2.2.2.2.2.2.2.2.2.2.2.2.2.2.2.2.2.2.2.2.1
theorem k0_dev57_lt : ∀ (v4 : BitVec 32) (k0_hw1 : k0_chk1 v4), (k0_dev57 v4) < nD := fun v4 k0_hw1 => k0_hw1.1.2.2.2.2.2.2.2.2.2.2.2.2.2.2.2.2.2.2.2.2.2.2.2.2.2.2.2.2.1
theorem k0_dev59_lt : ∀ (v4 : BitVec 32) (k0_hw1 : k0_chk1 v4), (k0_dev59 v4) < nD := fun v4 k0_hw1 => k0_hw1.1.2.2.2.2.2.2.2.2.2.2.2.2.2.2.2.2.2.2.2.2.2.2.2.2.2.2.2.2.2.1
theorem k0_dev60_lt : ∀ (v4 : BitVec 32) (k0_hw1 : k0_chk1 v4), (k0_dev60 v4) < nD := fun v4 k0_hw1 => k0_hw1.1.2.2.2.2.2.2.2.2.2.2.2.2.2.2.2.2.2.2.2.2.2.2.2.2.2.2.2.2.2.2.1
theorem k0_dev61_lt : ∀ (v4 : BitVec 32) (k0_hw1 : k0_chk1 v4), (k0_dev61 v4) < nD := fun v4 k0_hw1 => k0_hw1.1.2.2.2.2.2.2.2.2.2.2.2.2.2.2.2.2.2.2.2.2.2.2.2.2.2.2.2.2.2.2.2
theorem k0_dev62_lt : ∀ (v4 : BitVec 32) (k0_hw1 : k0_chk1 v4), (k0_dev62 v4) < nD := fun v4 k0_hw1 => k0_hw1.2

abbrev stage0_0 : Fin 1 → Memref sig .tc .smem S16x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.KernelIdeal.Chunks.lean ====
/-
The protocol's chunks, and when each is moved.

The sixteen devices form a ring. Each device's block of `x` (stream 0) and of `w` (stream 1) is cut into two row
chunks of 32 rows; every chunk travels from its owner to the right (direction 0, eight hops) and to the left
(direction 1, seven hops). A chunk in transit is named by its stream and by the row tile it lands in: row tile `ρ`
of the gather buffer is slot `ρ / 2` (hop `ρ / 4`, direction `ρ / 2 % 2`) and row half `ρ % 2`.

This file holds the arithmetic only: the ring's neighbours, each chunk's semaphores and views, and the clock, a
number for each event of the body in program order.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.RegionTalk
public import Idealize.ShloMosaic.Lib.Pipeline.Kit
public import Idealize.ShloMosaic.Lib.Pipeline.Regions
public import Idealize.ShloMosaic.Lib.MemrefSat
public import Idealize.ShloMosaic.Lib.Rounds
public import Idealize.ShloMosaic.Lib.Tactic

@[expose] public section

namespace Cert.KernelIdeal.Around

open Cert.KernelIdeal Cert.KernelIdeal.Gen
open Idealize.ShloMosaic Idealize.ShloMosaic.TcCoe

/-! ## The ring -/

/-- The device to the right of each on the ring, -/
def right (c : Dev nD) : Dev nD := (![4, 0, 6, 2, 8, 1, 10, 3, 12, 5, 14, 7, 15, 9, 13, 11] : Fin 16 → Fin 16) c
/-- and to the left. -/
def left (c : Dev nD) : Dev nD := (![1, 5, 3, 7, 0, 9, 2, 11, 4, 13, 6, 15, 8, 14, 10, 12] : Fin 16 → Fin 16) c
theorem left_right (c : Dev nD) : left (right c) = c := by revert c; decide
theorem right_left (c : Dev nD) : right (left c) = c := by revert c; decide

/-- The neighbour a direction sends to: 0 the right one, 1 the left one; -/
def onto : Fin 2 → Dev nD → Dev nD
  | 0 => right
  | 1 => left
/-- the neighbour it receives from. -/
def fro : Fin 2 → Dev nD → Dev nD
  | 0 => left
  | 1 => right
theorem fro_to (e : Fin 2) (c : Dev nD) : fro e (onto e c) = c := by
  match e with
  | 0 => exact left_right c
  | 1 => exact right_left c
theorem to_fro (e : Fin 2) (c : Dev nD) : onto e (fro e c) = c := by
  match e with
  | 0 => exact right_left c
  | 1 => exact left_right c
/-- Sending along a direction, as a permutation of the devices. -/
def toEquiv (e : Fin 2) : Dev nD ≃ Dev nD := ⟨onto e, fro e, fro_to e, to_fro e⟩

/-- Where the block that reaches `c` after `k` hops along a direction started. -/
def back (e : Fin 2) : ℕ → Dev nD → Dev nD
  | 0, c => c
  | k + 1, c => back e k (fro e c)

/-! ## Chunks -/

/-- A chunk in transit: its stream, and the row tile it lands in. -/
abbrev X := Fin 2 × Fin 30

def hop (x : X) : ℕ := x.2.val / 4
def dir (x : X) : Fin 2 := ⟨x.2.val / 2 % 2, Nat.mod_lt _ (by decide)⟩
def half (x : X) : Fin 2 := ⟨x.2.val % 2, Nat.mod_lt _ (by decide)⟩
/-- The chunk's place among a table of semaphores by stream, direction, hop and half. -/
def semIx (x : X) : ℕ := 32 * x.1.val + 16 * (x.2.val / 2 % 2) + 2 * (x.2.val / 4) + x.2.val % 2
theorem semIx_lt (x : X) : semIx x < 64 := by
  obtain ⟨⟨s, hs⟩, ⟨r, hr⟩⟩ := x; simp only [semIx]; omega
/-- The semaphore counted up when the chunk has left its sender, -/
def ssem (x : X) : DmaSem sig := ⟨3 + semIx x, by have := semIx_lt x; show 3 + semIx x < 133; omega⟩
/-- and when it has landed. -/
def rsem (x : X) : DmaSem sig := ⟨67 + semIx x, by have := semIx_lt x; show 67 + semIx x < 133; omega⟩

/-- Whether the receiver passes the chunk on, -/
def fwd (x : X) : Prop := x.2.val < 26
instance (x : X) : Decidable (fwd x) := by unfold fwd; infer_instance
/-- the chunk it passes it on as, -/
def next (x : X) (h : fwd x) : X := (x.1, ⟨x.2.val + 4, by unfold fwd at h; omega⟩)
/-- whether the chunk is one passed on, -/
def later (x : X) : Prop := 4 ≤ x.2.val
instance (x : X) : Decidable (later x) := by unfold later; infer_instance
/-- and the chunk it came as. -/
def prev (x : X) : X := (x.1, ⟨x.2.val - 4, by omega⟩)
theorem prev_next (x : X) (h : fwd x) : prev (next x h) = x := by
  obtain ⟨s, ⟨r, hr⟩⟩ := x; exact Prod.ext rfl (Fin.ext (Nat.add_sub_cancel ..))
theorem later_next (x : X) (h : fwd x) : later (next x h) := by unfold later next; simp
theorem fwd_prev (x : X) (h : later x) : fwd (prev x) := by
  obtain ⟨s, ⟨r, hr⟩⟩ := x; simp only [fwd, prev, later] at *; omega
theorem next_prev (x : X) (h : later x) : next (prev x) (fwd_prev x h) = x := by
  obtain ⟨s, ⟨r, hr⟩⟩ := x; simp only [later] at h
  exact Prod.ext rfl (Fin.ext (by simp only [next, prev]; omega))
theorem dir_next (x : X) (h : fwd x) : dir (next x h) = dir x := Fin.ext (by simp only [dir, next]; omega)
theorem half_next (x : X) (h : fwd x) : half (next x h) = half x := Fin.ext (by simp only [half, next]; omega)
theorem hop_next (x : X) (h : fwd x) : hop (next x h) = hop x + 1 := by simp only [hop, next]; omega

/-! ## The clock -/

/-- When a device sends the chunk: its own blocks' chunks first, then each as soon as it has come in; -/
def tS (x : X) : ℕ :=
  if x.2.val < 4 then 4 * (x.2.val / 2 % 2) + 2 * x.1.val + x.2.val % 2
  else 9 + 16 * (x.2.val / 4 - 1) + 8 * x.1.val + 4 * (x.2.val % 2) + 2 * (x.2.val / 2 % 2)
/-- when it waits for the chunk to come in; -/
def tR (x : X) : ℕ := 8 + 16 * (x.2.val / 4) + 8 * x.1.val + 4 * (x.2.val % 2) + 2 * (x.2.val / 2 % 2)
/-- when it waits for the chunk to have left. -/
def tW (x : X) : ℕ :=
  if x.2.val < 4 then 136 + 4 * (x.2.val / 2 % 2) + 2 * x.1.val + x.2.val % 2
  else 144 + 8 * (x.2.val / 4 - 1) + 4 * x.1.val + 2 * (x.2.val % 2) + x.2.val / 2 % 2

set_option maxRecDepth 8000 in
theorem tS_inj {x y : X} : tS x = tS y → x = y := by revert x y; decide +kernel
set_option maxRecDepth 8000 in
theorem tR_inj {x y : X} : tR x = tR y → x = y := by revert x y; decide +kernel
set_option maxRecDepth 8000 in
theorem tW_inj {x y : X} : tW x = tW y → x = y := by revert x y; decide +kernel
theorem tS_ne_tR (x y : X) : tS x ≠ tR y := by
  obtain ⟨⟨s, hs⟩, ⟨r, hr⟩⟩ := x; obtain ⟨⟨s', hs'⟩, ⟨r', hr'⟩⟩ := y
  simp only [tS, tR]; split_ifs <;> omega
theorem tS_lt (x : X) : tS x < 136 := by
  obtain ⟨⟨s, hs⟩, ⟨r, hr⟩⟩ := x; simp only [tS]; split_ifs <;> omega
theorem tR_lt (x : X) : tR x < 136 := by
  obtain ⟨⟨s, hs⟩, ⟨r, hr⟩⟩ := x; simp only [tR]; omega
theorem le_tW (x : X) : 136 ≤ tW x := by
  obtain ⟨⟨s, hs⟩, ⟨r, hr⟩⟩ := x; simp only [tW]; split_ifs <;> omega
theorem tW_lt (x : X) : tW x < 200 := by
  obtain ⟨⟨s, hs⟩, ⟨r, hr⟩⟩ := x; simp only [tW]; split_ifs <;> omega
/-- A chunk is waited for after the time of its own sending. -/
theorem tS_lt_tR (x : X) : tS x < tR x := by
  obtain ⟨⟨s, hs⟩, ⟨r, hr⟩⟩ := x; simp only [tS, tR]; split_ifs <;> omega
/-- A chunk passed on has come in. -/
theorem tR_prev_lt (x : X) (h : later x) : tR (prev x) < tS x := by
  obtain ⟨⟨s, hs⟩, ⟨r, hr⟩⟩ := x; simp only [later] at h; simp only [tS, tR, prev]; split_ifs <;> omega

/-! ## Views -/

/-- The gather buffers, one a stream, -/
def gM : Fin 2 → Memref sig .tc .vmem S960x1024 .bf16
  | 0 => Memref.whole cc0_scratch0
  | 1 => Memref.whole cc0_scratch1
/-- and the buffers a device's own blocks lie in. -/
def oM : Fin 2 → Memref sig .tc .vmem S64x1024 .bf16
  | 0 => Memref.whole cc0_stg1_0
  | 1 => Memref.whole cc0_scratch2

/-- Row tile `ρ` of a gather buffer, -/
def gR (ρ : Fin 30) : Rect S960x1024 :=
  Rect.unit (s := S960x1024) ![32 * ρ.val, 0] S32x1024.size (fun a => by fin_cases a <;> simp <;> omega)
/-- and half `q` of a block. -/
def oR (q : Fin 2) : Rect S64x1024 :=
  Rect.unit (s := S64x1024) ![32 * q.val, 0] S32x1024.size (fun a => by fin_cases a <;> simp <;> omega)

/-- Where the chunk lands, -/
def dstV (x : X) : Memref sig .tc .vmem S32x1024 .bf16 := (gM x.1).slice (gR x.2) (fun _ => rfl)
/-- and what it is sent from: the device's own block at hop 0, the tile it came in at after that. -/
def srcV (x : X) : Memref sig .tc .vmem S32x1024 .bf16 :=
  if later x then dstV (prev x) else (oM x.1).slice (oR (half x)) (fun _ => rfl)
theorem srcV_later (x : X) (h : later x) : srcV x = dstV (prev x) := if_pos h
theorem srcV_first (x : X) (h : ¬ later x) : srcV x = (oM x.1).slice (oR (half x)) (fun _ => rfl) := if_neg h

theorem gM_isWhole (s : Fin 2) : (gM s).IsWhole := by
  match s with
  | 0 => exact Memref.isWhole_whole _
  | 1 => exact Memref.isWhole_whole _
theorem oM_isWhole (s : Fin 2) : (oM s).IsWhole := by
  match s with
  | 0 => exact Memref.isWhole_whole _
  | 1 => exact Memref.isWhole_whole _
theorem gR_words (ρ : Fin 30) : (gR ρ).WholeWords (EltTy.packing .bf16) := by revert ρ; decide
theorem oR_words (q : Fin 2) : (oR q).WholeWords (EltTy.packing .bf16) := by revert q; decide
theorem dstV_words (x : X) : (dstV x).view.WordExact := (gM_isWhole x.1).wordExact_slice rfl _ (gR_words x.2)
theorem srcV_words (x : X) : (srcV x).view.WordExact := by
  by_cases h : later x
  · rw [srcV_later x h]; exact dstV_words _
  · rw [srcV_first x h]; exact (oM_isWhole x.1).wordExact_slice rfl _ (oR_words _)
theorem dstV_sc (x : X) : (dstV x).view.ref.isScScratch = false := by
  obtain ⟨s, ρ⟩ := x
  match s with
  | 0 => rfl
  | 1 => rfl

end Cert.KernelIdeal.Around
-- ==== Proof.KernelIdeal.Ops.lean ====
/-
The body as lists of protocol events.

The printed body is cut into sixty-one parts. Nearly every operation of it sends a chunk, waits for one to come in or
waits for one to have left; this file writes each part as its list of such events, with the loads between them.
-/
module

public import proofs.«01_k».proof.Proof.KernelIdeal.Chunks

@[expose] public section

noncomputable section

namespace Cert.KernelIdeal.Around

open Cert.KernelIdeal Cert.KernelIdeal.Gen
open Idealize.ShloMosaic Idealize.ShloMosaic.TcCoe Idealize.SL.Sem

variable {F : FTy → Type} [FloatOps F]

/-- A protocol event: a chunk sent, a chunk waited for, a chunk's departure waited for, or nothing. -/
inductive Ev
  | send (x : X)
  | recv (x : X)
  | left (x : X)
  | skip

/-- A program of the body returning an `α`. -/
abbrev Body (F : FTy → Type) (α : Type) := Prog (TpuEff nD τ sig (Elt F) Λ₀ .tc) α

/-- The send of chunk `x` to device `n`. -/
def sendOp (n : Dev nD) (x : X) : Body F PUnit :=
  Prog.lift (.enqueueDma (srcV x) (.remote (Dev.tc n) (dstV x) (.dma (ssem x)) (dstV_sc x)) (.dma (rsem x)) (srcV_words x) (dstV_words x)
    ⟨⟨rfl, Or.inl rfl⟩, trivial⟩)
/-- The wait for a chunk `x` to have come in. -/
def recvOp (x : X) : Body F PUnit :=
  Prog.lift (.waitDma2 (rsem x) (dstV x) (dstV x) (dstV_words x) (dstV_words x))
/-- The wait for a chunk `x` to have left. -/
def leftOp (x : X) : Body F PUnit :=
  Prog.lift (.waitDma2 (ssem x) (dstV x) (srcV x) (dstV_words x) (srcV_words x))

/-- One event's operation: `nR` and `nL` the devices the two directions send to. -/
def op (nR nL : Dev nD) : Ev → Body F PUnit
  | .send x => sendOp (match dir x with | 0 => nR | 1 => nL) x
  | .recv x => recvOp x
  | .left x => leftOp x
  | .skip => pure ⟨⟩

/-- The operations of a list of events, in order. -/
def ops (nR nL : Dev nD) : List Ev → Body F PUnit
  | [] => pure ⟨⟩
  | e :: es => op nR nL e >>= fun _ => ops nR nL es

open Ev

/-- Row tile `n`, or where `n` is too large to be one, an arbitrary one. -/
def tile (n : ℕ) : Fin 30 := ⟨n % 30, Nat.mod_lt _ (by decide)⟩

/-- The sends of a device's own blocks: to the right, then to the left, each of both streams in two halves. -/
def ownEvs : List Ev :=
  [send (0, tile 0), send (0, tile 1), send (1, tile 0), send (1, tile 1), send (0, tile 2), send (0, tile 3), send (1, tile 2), send (1, tile 3)]
/-- Hop `h` at one stream and half: the chunk from the left is waited for and passed on, then the one from the right,
    as far as there is one. -/
def cellEvs (h : ℕ) (s : Fin 2) (q : ℕ) : List Ev :=
  [recv (s, tile (4 * h + q)), if h < 7 then send (s, tile (4 * h + 4 + q)) else skip,
   if h < 7 then recv (s, tile (4 * h + 2 + q)) else skip, if h < 6 then send (s, tile (4 * h + 6 + q)) else skip]
/-- Hop `h`. -/
def hopEvs (h : ℕ) : List Ev := cellEvs h 0 0 ++ cellEvs h 0 1 ++ cellEvs h 1 0 ++ cellEvs h 1 1
/-- The waits for the chunks a device passed on at hop `h` to have left. -/
def leftEvs (h : ℕ) : List Ev :=
  [.left (0, tile (4 * h)), if h < 7 then .left (0, tile (4 * h + 2)) else skip,
   .left (0, tile (4 * h + 1)), if h < 7 then .left (0, tile (4 * h + 3)) else skip,
   .left (1, tile (4 * h)), if h < 7 then .left (1, tile (4 * h + 2)) else skip,
   .left (1, tile (4 * h + 1)), if h < 7 then .left (1, tile (4 * h + 3)) else skip]
/-- The waits for all the chunks sent to have left, in the order they were sent. -/
def leftAll : List Ev :=
  [.left (0, tile 0), .left (0, tile 1), .left (1, tile 0), .left (1, tile 1), .left (0, tile 2), .left (0, tile 3), .left (1, tile 2), .left (1, tile 3)]
    ++ leftEvs 1 ++ leftEvs 2 ++ leftEvs 3 ++ leftEvs 4 ++ leftEvs 5 ++ leftEvs 6 ++ leftEvs 7

/-- The two devices the words read off the table name. -/
abbrev nR (v4 : BitVec 32) (h : k0_chk1 v4) : Dev nD := ⟨k0_dev1 v4, k0_dev1_lt v4 h⟩
abbrev nL (v6 : BitVec 32) (h : k0_chk2 v6) : Dev nD := ⟨k0_dev2 v6, k0_dev2_lt v6 h⟩

/-! ## The products -/

/-- An accumulator: one half of the result's columns. -/
abbrev Acc (F : FTy → Type) := FVec F S1024x512 .f32

/-- The rows of a gather buffer that hop `h` fills, -/
def hopRows (h : Fin 7) : Rect S960x1024 :=
  Rect.unit (s := S960x1024) ![128 * h.val, 0] S128x1024.size (fun a => by fin_cases a <;> simp <;> omega)
/-- and of those rows the columns of half `i`; -/
def hopCols (h : Fin 7) (i : Fin 2) : Rect S960x1024 :=
  Rect.unit (s := S960x1024) ![128 * h.val, 512 * i.val] S128x512.size (fun a => by fin_cases a <;> simp <;> omega)
/-- the rows that the last hop fills, and their columns; -/
def lastRows : Rect S960x1024 := Rect.unit (s := S960x1024) ![896, 0] S64x1024.size (fun a => by fin_cases a <;> simp)
def lastCols (i : Fin 2) : Rect S960x1024 :=
  Rect.unit (s := S960x1024) ![896, 512 * i.val] S64x512.size (fun a => by fin_cases a <;> simp <;> omega)
/-- a device's own block, and its columns. -/
def ownRows : Rect S64x1024 := Rect.unit (s := S64x1024) ![0, 0] S64x1024.size (fun a => by fin_cases a <;> simp)
def ownCols (i : Fin 2) : Rect S64x1024 :=
  Rect.unit (s := S64x1024) ![0, 512 * i.val] S64x512.size (fun a => by fin_cases a <;> simp <;> omega)

/-- The products of a device's own blocks, -/
def dotOwn : Body F (Acc F × Acc F) := do
  let x0 : Vec F S64x1024 .bf16 ← Prog.lift (.load (oM 0) ownRows.toLoadRect (View.loadsAt_vmem h_S64x1024))
  let w0 : Vec F S64x512 .bf16 ← Prog.lift (.load (oM 1) (ownCols 0).toLoadRect (View.loadsAt_vmem h_S64x512))
  let x1 : Vec F S64x1024 .bf16 ← Prog.lift (.load (oM 0) ownRows.toLoadRect (View.loadsAt_vmem h_S64x1024))
  let w1 : Vec F S64x512 .bf16 ← Prog.lift (.load (oM 1) (ownCols 1).toLoadRect (View.loadsAt_vmem h_S64x512))
  pure (k0_pay2 x0 w0, k0_pay3 x1 w1)
/-- and those of the rows that hop `h` filled, added on. -/
def dots (h : Fin 7) (a : Acc F × Acc F) : Body F (Acc F × Acc F) := do
  let x0 : Vec F S128x1024 .bf16 ← Prog.lift (.load (gM 0) (hopRows h).toLoadRect (View.loadsAt_vmem h_S128x1024))
  let w0 : Vec F S128x512 .bf16 ← Prog.lift (.load (gM 1) (hopCols h 0).toLoadRect (View.loadsAt_vmem h_S128x512))
  let x1 : Vec F S128x1024 .bf16 ← Prog.lift (.load (gM 0) (hopRows h).toLoadRect (View.loadsAt_vmem h_S128x1024))
  let w1 : Vec F S128x512 .bf16 ← Prog.lift (.load (gM 1) (hopCols h 1).toLoadRect (View.loadsAt_vmem h_S128x512))
  pure (k0_pay4 a.1 x0 w0, k0_pay5 a.2 x1 w1)

/-! ## The result -/

/-- Half `i` of the buffer the result's halves are written to, -/
def outR (i : Fin 2) : Rect S2x1024x512 :=
  Rect.unit (s := S2x1024x512) ![i.val, 0, 0] S1x1024x512.size (fun a => by fin_cases a <;> simp <;> omega)
abbrev bM : Memref sig .tc .vmem S2x1024x512 .f32 := Memref.whole cc0_scratch3
/-- as a matrix, -/
def outSrc (i : Fin 2) : Memref sig .tc .vmem S1024x512 .f32 := (bM.slice (outR i) (fun _ => rfl)).squeeze S1024x512 squeezes_S1x1024x512_S1024x512
/-- and the columns of the result it is copied to; -/
def outC (i : Fin 2) : Rect S1024x1024 :=
  Rect.unit (s := S1024x1024) ![0, 512 * i.val] S1024x512.size (fun a => by fin_cases a <;> simp <;> omega)
def outDst (i : Fin 2) : Memref sig .tc .hbm S1024x512 .f32 := (Memref.whole main_v2).slice (outC i) (fun _ => rfl)
/-- the copy's semaphore. -/
def osem (i : Fin 2) : DmaSem sig := ⟨131 + i.val, by have := i.isLt; show 131 + i.val < 133; omega⟩

/-- The copy of half `i` out. -/
def copyOut (i : Fin 2) : Body F PUnit :=
  Prog.lift (.enqueueDma (outSrc i) (.here (outDst i)) (.dma (osem i)) ((View.wordExact_bits rfl).reshape _ _) (View.wordExact_bits rfl) ⟨Or.inl rfl, trivial⟩)
/-- The wait for it. -/
def waitOut (i : Fin 2) : Body F PUnit :=
  Prog.lift (.waitDma2 (osem i) (outSrc i) (outDst i) ((View.wordExact_bits rfl).reshape _ _) (View.wordExact_bits rfl))
/-- The write of half `i` to its buffer (the buffer is read first, and the value read is not used). -/
def putOut (i : Fin 2) (v : FVec F S1x1024x512 .f32) : Body F PUnit := do
  let _ : Vec F S1x1024x512 .f32 ← Prog.lift (.load bM (outR i).toLoadRect (View.loadsAt_vmem h_S1x1024x512))
  Prog.lift (.store bM (outR i) v Finset.univ (View.stores_vmem_bits_univ h_S1x1024x512 rfl) (.inl rfl))

/-- The last hop's products added on, the maximum with zero taken, and the two halves written out. -/
def finish (a : Acc F × Acc F) : Body F PUnit := do
  let x0 : Vec F S64x1024 .bf16 ← Prog.lift (.load (gM 0) lastRows.toLoadRect (View.loadsAt_vmem h_S64x1024))
  let w0 : Vec F S64x512 .bf16 ← Prog.lift (.load (gM 1) (lastCols 0).toLoadRect (View.loadsAt_vmem h_S64x512))
  let x1 : Vec F S64x1024 .bf16 ← Prog.lift (.load (gM 0) lastRows.toLoadRect (View.loadsAt_vmem h_S64x1024))
  let w1 : Vec F S64x512 .bf16 ← Prog.lift (.load (gM 1) (lastCols 1).toLoadRect (View.loadsAt_vmem h_S64x512))
  putOut 0 (k0_pay18 a.1 x0 w0)
  copyOut 0
  putOut 1 (k0_pay19 a.2 x1 w1)
  copyOut 1
  waitOut 0
  waitOut 1

/-! ## The body -/

/-- A part of the body at the buffers the launch hands it. -/
abbrev at_ {β : Type 1} (f : (arg0 : Memref sig .tc .smem S16x2 .i32) → arg0.IsWhole → (arg1 : Memref sig .tc .vmem S64x1024 .bf16) → arg1.IsWhole →
    (arg2 : Memref sig .tc .vmem S64x1024 .bf16) → arg2.IsWhole → (arg3 : Memref sig .tc .hbm S1024x1024 .f32) → arg3.IsWhole →
    (arg4 : Memref sig .tc .vmem S960x1024 .bf16) → arg4.IsWhole → (arg5 : Memref sig .tc .vmem S960x1024 .bf16) → arg5.IsWhole →
    (arg6 : Memref sig .tc .vmem S64x1024 .bf16) → arg6.IsWhole → (arg7 : Memref sig .tc .vmem S2x1024x512 .f32) → arg7.IsWhole →
    DmaSems sig S2x8x2 → DmaSems sig S2x8x2 → DmaSems sig S2x8x2 → DmaSems sig S2x8x2 → DmaSems sig S2 → β) : β :=
  f (Memref.whole cc0_stg0_0) (Memref.isWhole_whole _) (Memref.whole cc0_stg1_0) (Memref.isWhole_whole _)
    (Memref.whole cc0_stg2_0) (Memref.isWhole_whole _) (Memref.whole main_v2) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scratch8

/-- What follows the body's first part, once its neighbours are known. -/
def afterMeet (nR nL : Dev nD) : Body F PUnit := do
  ops nR nL ownEvs
  let a ← dotOwn
  ops nR nL (hopEvs 0)
  let a ← dots 0 a
  ops nR nL (hopEvs 1)
  let a ← dots 1 a
  ops nR nL (hopEvs 2)
  let a ← dots 2 a
  ops nR nL (hopEvs 3)
  let a ← dots 3 a
  ops nR nL (hopEvs 4)
  let a ← dots 4 a
  ops nR nL (hopEvs 5)
  let a ← dots 5 a
  ops nR nL (hopEvs 6)
  let a ← dots 6 a
  ops nR nL (hopEvs 7)
  finish a
  ops nR nL leftAll

set_option maxRecDepth 65536 in
/-- The body is its first part, then the events and products above. -/
theorem body_eq : at_ (cc0_body (F := F)) = (at_ (k0_part1 (F := F)) >>= fun r => afterMeet (nR r.1 r.2.1) (nL r.2.2.1 r.2.2.2)) := rfl

end Cert.KernelIdeal.Around
-- ==== Proof.KernelIdeal.Schedule.lean ====
/-
The protocol: which semaphore counts what, and what each count hands over.

* A device's barrier semaphore is counted up once by each neighbour. The unit from the right neighbour hands over the
  landing tiles of that neighbour's chunks travelling right, the one from the left neighbour those travelling left: no
  chunk is sent before its landing tile has been handed over.
* The send semaphore of a chunk is counted up by the copy that reads its source, and hands the source back.
* The receive semaphore of a chunk is counted up by the neighbour's copy, and hands the landing tile over at the rows of
  the block that has come this far round the ring.
* The two semaphores of the copies out hand over the halves of the result.

Every semaphore is used for one round only.
-/
module

public import proofs.«01_k».proof.Proof.KernelIdeal.Ops

@[expose] public section

noncomputable section

namespace Cert.KernelIdeal.Around

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-- The resources: the pipeline library's, and the protocol's, whose duties on a semaphore are numbered 0 and 1. -/
abbrev UU : Type := UR sig nD τ × URounds (GSem nD τ sig) (Fin 2)

local notation "𝕄" => MT nD τ sig Unit (Elt F) ℕ UU ℕ

abbrev EP : Emb (UR sig nD τ) (MT nD τ sig Unit (Elt F) ℕ UU ℕ) := embL
abbrev ER : Emb (URounds (GSem nD τ sig) (Fin 2)) (MT nD τ sig Unit (Elt F) ℕ UU ℕ) := embR

/-! ## What is moved -/

/-- The blocks the devices start with, of stream 0 and of stream 1. -/
abbrev Blocks (F : FTy → Type) := Fin 2 → Dev nD → (S64x1024.Idx → Elt F .bf16)
/-- The halves of the devices' results. -/
abbrev Results (F : FTy → Type) := Fin 2 → Dev nD → (S1024x512.Idx → Elt F .f32)

/-- A chunk's shape. -/
abbrev Chunk (F : FTy → Type) := S32x1024.Idx → Elt F .bf16

variable (blk : Blocks F) (res : Results F)

/-- The chunk that device `c` sends as `x`: rows of the block that has come `hop x` hops to `c`; -/
def sent (x : X) (c : Dev nD) : Chunk F := fun j => blk x.1 (back (dir x) (hop x) c) ((oR (half x)).emb j)
/-- and the one that lands on it as `x`, one hop further on. -/
def landed (x : X) (c : Dev nD) : Chunk F := fun j => blk x.1 (back (dir x) (hop x + 1) c) ((oR (half x)).emb j)

theorem back_succ (e : Fin 2) (k : ℕ) (c : Dev nD) : back e (k + 1) c = back e k (fro e c) := rfl
/-- What a device sends lands on the neighbour; -/
theorem landed_onto (x : X) (c : Dev nD) : landed blk x (onto (dir x) c) = sent blk x c := by
  unfold landed sent; rw [back_succ, fro_to]
/-- what has landed is what is passed on. -/
theorem sent_next (x : X) (h : fwd x) (c : Dev nD) : sent blk (next x h) c = landed blk x c := by
  unfold landed sent; rw [dir_next, half_next, hop_next]; rfl
/-- At hop 0 it is the device's own. -/
theorem sent_first (x : X) (h : ¬ later x) (c : Dev nD) : sent blk x c = fun j => blk x.1 c ((oR (half x)).emb j) := by
  have h0 : hop x = 0 := by unfold hop; unfold later at h; omega
  unfold sent; rw [h0]; rfl

/-! ## Shares -/

/-- The products read under one half of a buffer while its chunks are sent under the other. -/
abbrev hL : PosShare TreeShare := fullShare.left
abbrev hR : PosShare TreeShare := fullShare.right
/-- The share a chunk is sent under: of a device's own block each direction takes a half of the sending half. -/
def sh (x : X) : PosShare TreeShare := if later x then hR else match dir x with | 0 => hR.left | 1 => hR.right

/-! ## Semaphores -/

/-- The barrier semaphore. -/
def barS : Sem sig := (SemArray.scalar (sig.barrier 0 rfl) : Sems sig S_).sem
abbrev barCell (c : Dev nD) : GSem nD τ sig := ((c : Thread nD τ), .reg barS)
abbrev sCell (c : Dev nD) (x : X) : GSem nD τ sig := ((c : Thread nD τ), .dma (ssem x))
abbrev rCell (c : Dev nD) (x : X) : GSem nD τ sig := ((c : Thread nD τ), .dma (rsem x))
abbrev oCell (c : Dev nD) (i : Fin 2) : GSem nD τ sig := ((c : Thread nD τ), .dma (osem i))

/-- What a semaphore is for. -/
inductive Role
  | bar
  | snd (x : X)
  | rcv (x : X)
  | out (i : Fin 2)
  | idle
  deriving DecidableEq

/-- The chunk at place `n` of a table of semaphores. -/
def chunkAt (n : ℕ) : Option X :=
  if h : 4 * (n / 2 % 8) + 2 * (n / 16 % 2) + n % 2 < 30 then
    some (⟨n / 32 % 2, Nat.mod_lt _ (by decide)⟩, ⟨4 * (n / 2 % 8) + 2 * (n / 16 % 2) + n % 2, h⟩)
  else none

/-- The DMA semaphores' roles by number. -/
def roleAt (n : ℕ) : Role :=
  if n < 3 then .idle
  else if n < 67 then (match chunkAt (n - 3) with | some x => .snd x | none => .idle)
  else if n < 131 then (match chunkAt (n - 67) with | some x => .rcv x | none => .idle)
  else if n = 131 then .out 0 else .out 1

def role : SemLoc sig → Role
  | .reg _ => .bar
  | .dma k => roleAt k.val

theorem roleAt_s (x : X) : roleAt (3 + semIx x) = .snd x := by revert x; decide +kernel
theorem roleAt_r (x : X) : roleAt (67 + semIx x) = .rcv x := by revert x; decide +kernel
theorem roleAt_o (i : Fin 2) : roleAt (131 + i.val) = .out i := by revert i; decide
theorem role_bar : role (.reg barS) = .bar := rfl
theorem role_s (x : X) : role (.dma (ssem x)) = .snd x := roleAt_s x
theorem role_r (x : X) : role (.dma (rsem x)) = .rcv x := roleAt_r x
theorem role_o (i : Fin 2) : role (.dma (osem i)) = .out i := roleAt_o i

/-- What a chunk counts, -/
def N : ℕ := (dstV (0, 0)).view.dmaCredit
theorem N_eq (x : X) : (dstV x).view.dmaCredit = N := by
  obtain ⟨s, ρ⟩ := x
  match s with
  | 0 => rfl
  | 1 => rfl
theorem N_src (x : X) : (srcV x).view.dmaCredit = N := by
  by_cases h : later x
  · rw [srcV_later x h]; exact N_eq _
  · rw [srcV_first x h]
    match x.1 with
    | 0 => rfl
    | 1 => rfl
theorem N_pos : 0 < N := View.dmaCredit_pos _ (by decide)
/-- and a half of the result. -/
def No : ℕ := (outDst 0).view.dmaCredit
theorem No_eq (i : Fin 2) : (outDst i).view.dmaCredit = No := rfl
theorem No_pos : 0 < No := View.dmaCredit_pos _ (by decide)

/-! ## The schedule -/

/-- Landing tile `x` of device `p`, at whatever it holds, for a chunk to be sent there. -/
def land (p : Dev nD) (x : X) : sProp 𝕄 :=
  iprop((∃ Y, ownsTc p (dstV x) fullShare Y) ∗ reached ER (rCell p x) 0)
/-- What the neighbour that direction `e` sends to hands `c` over: its landing tiles of that direction. -/
def barPay (c : Dev nD) (e : Fin 2) : sProp 𝕄 :=
  bigSep (Finset.univ.filter fun x : X => dir x = e) fun x => land (onto e c) x
/-- What a copy out hands over: half the result, and the buffer it was copied from. -/
def outPay (c : Dev nD) (i : Fin 2) : sProp 𝕄 :=
  iprop(ownsTc c (outDst i) fullShare (res i c) ∗ ownsTc c (outSrc i) fullShare (res i c))

def rd : Rounds.Schedule (GSem nD τ sig) (Fin 2) 𝕄 where
  duties g r := if r = 0 ∧ g.1.2 = .tc then (match role g.2 with | .bar => Finset.univ | .idle => ∅ | _ => {0}) else ∅
  unitless _ := False
  amount g _ _ := match role g.2 with | .bar => 1 | .out _ => No | _ => N
  payload g _ d :=
    match role g.2 with
    | .bar => barPay g.1.1 d
    | .snd x => ownsTc g.1.1 (srcV x) (sh x) (sent blk x g.1.1)
    | .rcv x => ownsTc g.1.1 (dstV x) fullShare (landed blk x g.1.1)
    | .out i => outPay res g.1.1 i
    | .idle => iprop(emp)
  amount_pos g _ _ _ := by
    cases role g.2 with
    | bar => exact Nat.one_pos
    | out i => exact No_pos
    | snd x => exact N_pos
    | rcv x => exact N_pos
    | idle => exact N_pos

instance rd_storable (g : GSem nD τ sig) (r : ℕ) (d : Fin 2) : BI.Storable (upEmb : UEmb _ 𝕄) ((rd (F := F) blk res).payload g r d) := by
  show BI.Storable upEmb (match role g.2 with
    | .bar => barPay g.1.1 d
    | .snd x => ownsTc g.1.1 (srcV x) (sh x) (sent blk x g.1.1)
    | .rcv x => ownsTc g.1.1 (dstV x) fullShare (landed blk x g.1.1)
    | .out i => outPay res g.1.1 i
    | .idle => iprop(emp))
  unfold barPay outPay land
  cases role g.2 <;> infer_instance

section Sched

variable (c : Dev nD)

theorem duties_bar : (rd blk res).duties (barCell c) 0 = Finset.univ := by dsimp only [rd]; rw [if_pos ⟨rfl, rfl⟩, role_bar]
theorem duties_s (x : X) : (rd blk res).duties (sCell c x) 0 = {0} := by dsimp only [rd]; rw [if_pos ⟨rfl, rfl⟩, role_s]
theorem duties_r (x : X) : (rd blk res).duties (rCell c x) 0 = {0} := by dsimp only [rd]; rw [if_pos ⟨rfl, rfl⟩, role_r]
theorem duties_o (i : Fin 2) : (rd blk res).duties (oCell c i) 0 = {0} := by dsimp only [rd]; rw [if_pos ⟨rfl, rfl⟩, role_o]
theorem duties_later (g : GSem nD τ sig) : ∀ r, 1 ≤ r → (rd blk res).duties g r = ∅ :=
  fun r hr => by dsimp only [rd]; rw [if_neg (fun h => by omega)]

theorem amount_bar (d : Fin 2) : (rd blk res).amount (barCell c) 0 d = 1 := by dsimp only [rd]; rw [role_bar]
theorem amount_s (x : X) (d : Fin 2) : (rd blk res).amount (sCell c x) 0 d = N := by dsimp only [rd]; rw [role_s]
theorem amount_r (x : X) (d : Fin 2) : (rd blk res).amount (rCell c x) 0 d = N := by dsimp only [rd]; rw [role_r]
theorem amount_o (i : Fin 2) (d : Fin 2) : (rd blk res).amount (oCell c i) 0 d = No := by dsimp only [rd]; rw [role_o]

theorem payload_bar (d : Fin 2) : (rd blk res).payload (barCell c) 0 d = barPay c d := by dsimp only [rd]; rw [role_bar]
theorem payload_s (x : X) (d : Fin 2) : (rd blk res).payload (sCell c x) 0 d = ownsTc c (srcV x) (sh x) (sent blk x c) := by
  dsimp only [rd]; rw [role_s]
theorem payload_r (x : X) (d : Fin 2) : (rd blk res).payload (rCell c x) 0 d = ownsTc c (dstV x) fullShare (landed blk x c) := by
  dsimp only [rd]; rw [role_r]
theorem payload_o (i : Fin 2) (d : Fin 2) : (rd blk res).payload (oCell c i) 0 d = outPay res c i := by
  dsimp only [rd]; rw [role_o]

theorem expect_bar : (rd blk res).expect (barCell c) 0 = 2 := by
  unfold Schedule.expect Schedule.amountOf; rw [duties_bar, Fin.sum_univ_two, amount_bar, amount_bar]
theorem expect_s (x : X) : (rd blk res).expect (sCell c x) 0 = N := by
  unfold Schedule.expect Schedule.amountOf; rw [duties_s, Finset.sum_singleton, amount_s]
theorem expect_r (x : X) : (rd blk res).expect (rCell c x) 0 = N := by
  unfold Schedule.expect Schedule.amountOf; rw [duties_r, Finset.sum_singleton, amount_r]
theorem expect_o (i : Fin 2) : (rd blk res).expect (oCell c i) 0 = No := by
  unfold Schedule.expect Schedule.amountOf; rw [duties_o, Finset.sum_singleton, amount_o]

theorem rest_bar : bigSep ((rd blk res).duties (barCell c) 0 \ ∅) (fun d => (rd blk res).payload (barCell c) 0 d)
    = iprop(barPay c 0 ∗ barPay c 1) := by
  rw [Finset.sdiff_empty, duties_bar, bigSep_univ_two, payload_bar, payload_bar]
theorem rest_s (x : X) : bigSep ((rd blk res).duties (sCell c x) 0 \ ∅) (fun d => (rd blk res).payload (sCell c x) 0 d)
    = ownsTc c (srcV x) (sh x) (sent blk x c) := by
  rw [Finset.sdiff_empty, duties_s, bigSep_singleton, payload_s]
theorem rest_r (x : X) : bigSep ((rd blk res).duties (rCell c x) 0 \ ∅) (fun d => (rd blk res).payload (rCell c x) 0 d)
    = ownsTc c (dstV x) fullShare (landed blk x c) := by
  rw [Finset.sdiff_empty, duties_r, bigSep_singleton, payload_r]
theorem rest_o (i : Fin 2) : bigSep ((rd blk res).duties (oCell c i) 0 \ ∅) (fun d => (rd blk res).payload (oCell c i) 0 d)
    = outPay res c i := by
  rw [Finset.sdiff_empty, duties_o, bigSep_singleton, payload_o]

/-- A semaphore whose one round is over can be taken back, at zero. -/
theorem close (κ : ℕ) (g : GSem nD τ sig) :
    iprop(cellInv ER (rd blk res) κ g ∗ atPos ER g (0 + 1) ∅ 0) ⊢ (|={Set.univ}=> semVal g 0 : sProp 𝕄) :=
  Rounds.cell_close ER (rd blk res) (Set.mem_univ κ) id (duties_later blk res g)

end Sched

/-! ## Levels

A device that waits on a receive semaphore owes only chunks it will send later, and the neighbour waits for those later
than this. So the level of a chunk's receive semaphore is the time of the chunk's sending; the barrier lies below all of
them. -/

def L (g : GSem nD τ sig) : Finset Unit := if g.1.2 = .tc then {()} else ∅
def lv (g : GSem nD τ sig) (_ : Unit) : ℕ := match role g.2 with | .rcv x => tS x + 2 | .bar => 1 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_r (c : Dev nD) (x : X) (u : Unit) : lv (rCell c x) u = tS x + 2 := by unfold lv; rw [role_r]
theorem lv_bar (c : Dev nD) (u : Unit) : lv (barCell c) u = 1 := by unfold lv; rw [role_bar]

/-- What device `c` owes at time `n`: the landing of every chunk it has not yet sent. -/
def owed (c : Dev nD) (n : ℕ) : CellTallies nD τ sig Unit :=
  ∑ x ∈ Finset.univ.filter (fun x : X => n ≤ tS x), tallyAt (rCell (onto (dir x) c) x) () N

theorem owed_done (c : Dev nD) (n : ℕ) (h : 136 ≤ n) : owed c n = 0 := by
  unfold owed
  rw [Finset.filter_false_of_mem (fun x _ => by have := tS_lt x; omega), Finset.sum_empty]
theorem owed_stay (c : Dev nD) (n : ℕ) (h : ∀ x, tS x ≠ n) : owed c (n + 1) = owed c n := by
  unfold owed
  congr 1
  exact Finset.filter_congr fun x _ => by have := h x; omega
theorem owed_send (c : Dev nD) (x : X) : owed c (tS x) = owed c (tS x + 1) + tallyAt (rCell (onto (dir x) c) x) () N := by
  unfold owed
  rw [show Finset.univ.filter (fun y : X => tS x ≤ tS y) = insert x (Finset.univ.filter fun y : X => tS x + 1 ≤ tS y) from by
      ext y; simp only [Finset.mem_filter, Finset.mem_univ, true_and, Finset.mem_insert]
      constructor
      · intro h
        by_cases e : tS y = tS x
        · exact .inl (tS_inj e)
        · exact .inr (by omega)
      · rintro (rfl | h)
        · exact le_refl _
        · omega,
    Finset.sum_insert (by simp), add_comm]
/-- What is owed at time `n` is owed to a receive semaphore of a chunk still to be sent. -/
theorem owed_pos {c : Dev nD} {n : ℕ} {g : GSem nD τ sig} {u : Unit} (h : 0 < owed c n g u) :
    ∃ x p, n ≤ tS x ∧ g = rCell p x := by
  unfold owed at h
  rw [Finset.sum_apply, Finsupp.finset_sum_apply] at h
  obtain ⟨x, hx, hp⟩ := Finset.exists_ne_zero_of_sum_ne_zero (Nat.pos_iff_ne_zero.mp h)
  rw [tallyAt_apply] at hp
  refine ⟨x, onto (dir x) c, (Finset.mem_filter.mp hx).2, ?_⟩
  by_contra hg
  exact hp (if_neg fun e => hg e.1)

theorem mayWait (c : Dev nD) (n : ℕ) (sm : SemLoc sig) (h : ∀ x, n ≤ tS x → lv ((c : Thread nD τ), sm) () < tS x + 2) :
    (levAts L lv : sProp 𝕄) ⊢ MayWait (c : Thread nD τ) sm () (owed c n) :=
  MayOwe.of_cut (L := L) (lev := lv) (lv ((c : Thread nD τ), sm) ())
    (fun p hp => by rw [Finset.mem_singleton.mp hp, L_tc]; exact Finset.mem_singleton_self _)
    (fun g u hg => by
      obtain ⟨x, p, -, rfl⟩ := owed_pos hg
      rw [L_tc]; exact Finset.mem_singleton_self _)
    (fun p hp => by rw [Finset.mem_singleton.mp hp])
    (fun g u hg => by
      obtain ⟨x, p, hx, rfl⟩ := owed_pos hg
      rw [lv_r]; exact h x hx)
theorem mayWait_bar (c : Dev nD) : (levAts L lv : sProp 𝕄) ⊢ MayWait (c : Thread nD τ) (.reg barS) () (owed c 0) :=
  mayWait c 0 _ fun x _ => by rw [lv_bar]; omega
theorem mayWait_r (c : Dev nD) (x : X) : (levAts L lv : sProp 𝕄) ⊢ MayWait (c : Thread nD τ) (.dma (rsem x)) () (owed c (tR x)) :=
  mayWait c _ _ fun y hy => by rw [lv_r]; have := tS_lt_tR x; omega

end Cert.KernelIdeal.Around
-- ==== Proof.KernelIdeal.Steps.lean ====
/-
What a device holds at each time of the clock, and what each event does to it.

The holding at time `n` is a product over the chunks of three sides: what it holds for the chunk's sending, for its
coming in, and for the source it is sent from. Each event changes one chunk's sides and moves the clock on by one.
-/
module

public import proofs.«01_k».proof.Proof.KernelIdeal.Schedule

@[expose] public section

set_option maxRecDepth 100000

noncomputable section

namespace Cert.KernelIdeal.Around

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (blk : Blocks F) (res : Results F)

/-! ## The cells -/

/-- The semaphores of the kernel's own that the protocol uses. -/
abbrev Slot := X ⊕ X ⊕ Fin 2
def slotNum : Slot → ℕ
  | .inl x => semIx x
  | .inr (.inl x) => 64 + semIx x
  | .inr (.inr i) => 128 + i.val
theorem slotNum_lt (y : Slot) : slotNum y < 130 := by
  match y with
  | .inl x => have := semIx_lt x; show semIx x < 130; omega
  | .inr (.inl x) => have := semIx_lt x; show 64 + semIx x < 130; omega
  | .inr (.inr i) => have := i.isLt; show 128 + i.val < 130; omega
/-- The kernel's own semaphores, -/
def ownSem (k : Fin 130) : SemLoc sig := .dma ⟨3 + k.val, by have := k.isLt; show 3 + k.val < 133; omega⟩
/-- and where each that is used stands among them. -/
def slotIx (y : Slot) : Fin 130 := ⟨slotNum y, slotNum_lt y⟩
theorem ownSem_s (x : X) : ownSem (slotIx (.inl x)) = .dma (ssem x) := rfl
theorem ownSem_r (x : X) : ownSem (slotIx (.inr (.inl x))) = .dma (rsem x) := by
  unfold ownSem slotIx slotNum rsem; congr 2; exact (Nat.add_assoc 3 64 _).symm
theorem ownSem_o (i : Fin 2) : ownSem (slotIx (.inr (.inr i))) = .dma (osem i) := by
  unfold ownSem slotIx slotNum osem; congr 2; exact (Nat.add_assoc 3 128 _).symm
def slotRole : Slot → Role
  | .inl x => .snd x
  | .inr (.inl x) => .rcv x
  | .inr (.inr i) => .out i
theorem role_slot (y : Slot) : role (ownSem (slotIx y)) = slotRole y := by
  match y with
  | .inl x => rw [ownSem_s]; exact role_s x
  | .inr (.inl x) => rw [ownSem_r]; exact role_r x
  | .inr (.inr i) => rw [ownSem_o]; exact role_o i
theorem slotRole_inj {y z : Slot} (h : slotRole y = slotRole z) : y = z := by
  match y, z with
  | .inl x, .inl x' => cases h; rfl
  | .inr (.inl x), .inr (.inl x') => cases h; rfl
  | .inr (.inr i), .inr (.inr i') => cases h; rfl
theorem slotIx_inj : Function.Injective slotIx := fun y z h => slotRole_inj (by rw [← role_slot, ← role_slot, h])
def slotEmb : Slot ↪ Fin 130 := ⟨slotIx, slotIx_inj⟩

def barEmb : Dev nD ↪ GSem nD τ sig := ⟨barCell, fun a b h => (Prod.mk.inj (Prod.mk.inj h).1).1⟩
abbrev scCell (p : Dev nD × Slot) : GSem nD τ sig := ((p.1 : Thread nD τ), ownSem (slotIx p.2))
def scEmb : Dev nD × Slot ↪ GSem nD τ sig :=
  ⟨scCell, fun a b h => Prod.ext (Prod.mk.inj (Prod.mk.inj h).1).1
    (slotRole_inj (by rw [← role_slot, ← role_slot, (Prod.mk.inj h).2]))⟩
/-- The barrier semaphores, in use from the start, -/
def barCells : Finset (GSem nD τ sig) := Finset.univ.map barEmb
/-- and the kernel's own, put to use when the kernel is entered. -/
def scCells : Finset (GSem nD τ sig) := Finset.univ.map scEmb

theorem bar_mem (c : Dev nD) : barCell c ∈ barCells ∪ scCells := Finset.mem_union_left _ (Finset.mem_map_of_mem barEmb (Finset.mem_univ c))
theorem sc_mem (c : Dev nD) (y : Slot) : scCell (c, y) ∈ barCells ∪ scCells := Finset.mem_union_right _ (Finset.mem_map_of_mem scEmb (Finset.mem_univ (c, y)))
theorem s_mem (c : Dev nD) (x : X) : sCell c x ∈ barCells ∪ scCells := sc_mem c (.inl x)
theorem r_mem (c : Dev nD) (x : X) : rCell c x ∈ barCells ∪ scCells := by
  have h := sc_mem c (.inr (.inl x)); unfold scCell at h; rw [ownSem_r] at h; exact h
theorem o_mem (c : Dev nD) (i : Fin 2) : oCell c i ∈ barCells ∪ scCells := by
  have h := sc_mem c (.inr (.inr i)); unfold scCell at h; rw [ownSem_o] at h; exact h

variable (K : GSem nD τ sig → ℕ)

/-- The standing facts: the levels, and every cell's invariant. -/
def recs : sProp 𝕄 := iprop(levAts L lv ∗ bigSep (barCells ∪ scCells) fun g => cellInv ER (rd blk res) (K g) g)
instance recs_persistent : BI.Persistent (recs blk res K) := by unfold recs; infer_instance
theorem recs_lev : (recs blk res K : sProp 𝕄) ⊢ levAts L lv := by unfold recs; iintro ⟨H, -⟩; iexact H
theorem recs_cell {g : GSem nD τ sig} (h : g ∈ barCells ∪ scCells) : (recs blk res K : sProp 𝕄) ⊢ cellInv ER (rd blk res) (K g) g := by
  refine BIBase.Entails.trans ?_ (show (bigSep (barCells ∪ scCells) fun g => cellInv ER (rd blk res) (K g) g : sProp 𝕄) ⊢ cellInv ER (rd blk res) (K g) g from bigSep_elim (Φ := fun g => cellInv ER (rd blk res) (K g) g) h)
  unfold recs; iintro ⟨-, H⟩; iexact H

/-! ## The sides -/

/-- Before the chunk is sent: the tokens, the landing tile, the place on the send cell; -/
def sndPre (c : Dev nD) (x : X) : sProp 𝕄 :=
  iprop(dutyTok ER (sCell c x) 0 0 ∗ dutyTok ER (rCell (onto (dir x) c) x) 0 0 ∗ land (onto (dir x) c) x
    ∗ atPos ER (sCell c x) 0 ∅ 0 ∗ reached ER (sCell c x) 0)
/-- while it is being sent: the credit to wait with; -/
def sndMid (c : Dev nD) (x : X) : sProp 𝕄 := iprop(cred (tallyAt (sCell c x) () N) ∗ atPos ER (sCell c x) 0 ∅ 0)
/-- after: the semaphore back. -/
def sndPost (c : Dev nD) (x : X) : sProp 𝕄 := semVal (sCell c x) 0
def sndSide (c : Dev nD) (n : ℕ) (x : X) : sProp 𝕄 := if n ≤ tS x then sndPre c x else if n ≤ tW x then sndMid c x else sndPost c x

/-- Before the chunk has come in: the credit to wait with, and the place on the receive cell; -/
def rcvPre (c : Dev nD) (x : X) : sProp 𝕄 := iprop(cred (tallyAt (rCell c x) () N) ∗ atPos ER (rCell c x) 0 ∅ 0)
/-- after: the semaphore back, and the tile, under the reading half and, where it is not passed on, under the other too. -/
def rcvPost (c : Dev nD) (x : X) : sProp 𝕄 :=
  iprop(semVal (rCell c x) 0 ∗ ownsTc c (dstV x) hL (landed blk x c) ∗ (if fwd x then iprop(emp) else ownsTc c (dstV x) hR (landed blk x c)))
def rcvSide (c : Dev nD) (n : ℕ) (x : X) : sProp 𝕄 := if n ≤ tR x then rcvPre c x else rcvPost blk c x

/-- Whether the source is in hand: it has come in, and is not being sent. -/
def inHand (n : ℕ) (x : X) : Prop := (later x → tR (prev x) < n) ∧ (n ≤ tS x ∨ tW x < n)
instance (n : ℕ) (x : X) : Decidable (inHand n x) := by unfold inHand; infer_instance
def srcSide (c : Dev nD) (n : ℕ) (x : X) : sProp 𝕄 := if inHand n x then ownsTc c (srcV x) (sh x) (sent blk x c) else iprop(emp)

/-- What device `c` holds at time `n`. -/
def holds (c : Dev nD) (n : ℕ) : sProp 𝕄 :=
  iprop((∃ W, owes (c : Thread nD τ) (owed c n) W) ∗ bigSep Finset.univ (sndSide c n) ∗ bigSep Finset.univ (rcvSide blk c n)
    ∗ bigSep Finset.univ (srcSide blk c n))

theorem sndSide_stay (c : Dev nD) {n : ℕ} {x : X} (hS : tS x ≠ n) (hW : tW x ≠ n) : (sndSide c (n + 1) x : sProp 𝕄) = sndSide c n x := by
  unfold sndSide
  simp only [show n + 1 ≤ tS x ↔ n ≤ tS x from ⟨fun h => by omega, fun h => by omega⟩,
    show n + 1 ≤ tW x ↔ n ≤ tW x from ⟨fun h => by omega, fun h => by omega⟩]
theorem rcvSide_stay (c : Dev nD) {n : ℕ} {x : X} (hR : tR x ≠ n) : (rcvSide blk c (n + 1) x : sProp 𝕄) = rcvSide blk c n x := by
  unfold rcvSide
  simp only [show n + 1 ≤ tR x ↔ n ≤ tR x from ⟨fun h => by omega, fun h => by omega⟩]
theorem srcSide_stay (c : Dev nD) {n : ℕ} {x : X} (hS : tS x ≠ n) (hW : tW x ≠ n) (hR : later x → tR (prev x) ≠ n) :
    (srcSide blk c (n + 1) x : sProp 𝕄) = srcSide blk c n x := by
  unfold srcSide
  have e : inHand (n + 1) x ↔ inHand n x := by
    unfold inHand
    exact ⟨fun h => ⟨fun hl => by have := h.1 hl; have := hR hl; omega, by omega⟩,
      fun h => ⟨fun hl => by have := h.1 hl; omega, by omega⟩⟩
  simp only [e]

/-- Nothing happens at a time that is no event's. -/
theorem holds_skip (c : Dev nD) (n : ℕ) (hS : ∀ x, tS x ≠ n) (hR : ∀ x, tR x ≠ n) (hW : ∀ x, tW x ≠ n) :
    (holds blk c (n + 1) : sProp 𝕄) = holds blk c n := by
  unfold holds
  rw [owed_stay c n hS, bigSep_congr (fun x _ => sndSide_stay c (hS x) (hW x)), bigSep_congr (fun x _ => rcvSide_stay blk c (hR x)),
    bigSep_congr (fun x _ => srcSide_stay blk c (hS x) (hW x) fun _ => hR (prev x))]

/-! ## The events -/

abbrev 𝒱₀ : Variants := Variants.none

/-- A SEND: the landing tile and both tokens go into the copy, the source too, until the wait for its departure. -/
theorem run_send (c : Dev nD) (x : X) (Q : PUnit → sProp 𝕄) :
    iprop(recs blk res K ∗ holds blk c (tS x)) ⊢ iprop((holds blk c (tS x + 1) -∗ Q ⟨⟩)
      -∗ wp frame (wpE (defs₀ (F := F)) 𝒱₀ (c : Thread nD τ) none) Set.univ (sendOp (F := F) (onto (dir x) c) x) Q) := by
  unfold holds sendOp Prog.lift
  iintro ⟨#Hrec, ⟨%W, HO⟩, HS, HR, HV⟩ Hk
  have hne : ∀ y : X, tW y ≠ tS x := fun y => by have := tS_lt x; have := le_tW y; omega
  ihave HS' := (bigSep_univ_update (Φ := sndSide c (tS x)) (Ψ := sndSide c (tS x + 1)) x
    (fun y hy => sndSide_stay c (fun e => hy (tS_inj e)) (hne y))) $$ HS
  icases HS' with ⟨HS, HSk⟩
  ihave HV' := (bigSep_univ_update (Φ := srcSide blk c (tS x)) (Ψ := srcSide blk c (tS x + 1)) x
    (fun y hy => srcSide_stay blk c (fun e => hy (tS_inj e)) (hne y) fun _ => (tS_ne_tR x (prev y)).symm)) $$ HV
  icases HV' with ⟨HV, HVk⟩
  ihave HR := (Entails.of_eq (bigSep_congr (fun y _ => (rcvSide_stay blk c (n := tS x) (x := y) (tS_ne_tR x y).symm).symm))) $$ HR
  ihave HS := (Entails.of_eq (show (sndSide c (tS x) x : sProp 𝕄) = sndPre c x from if_pos (le_refl _))) $$ HS
  ihave HV := (Entails.of_eq (show srcSide blk c (tS x) x = ownsTc c (srcV x) (sh x) (sent blk x c) from
      if_pos (show inHand (tS x) x from ⟨tR_prev_lt x, .inl (le_refl _)⟩))) $$ HV
  have eS : (sndSide c (tS x + 1) x : sProp 𝕄) = sndMid c x :=
    (if_neg (by omega)).trans (if_pos (by have := tS_lt x; have := le_tW x; omega))
  have eV : srcSide blk c (tS x + 1) x = iprop(emp) :=
    if_neg (show ¬ inHand (tS x + 1) x from fun h => by have := h.2; have := tS_lt x; have := le_tW x; omega)
  rw [eS, eV]
  unfold sndPre sndMid land ownsTc owns
  icases HS with ⟨Ht1, Ht2, ⟨⟨%Y, %fd, -, Hd⟩, #Hr2⟩, Hat, #Hr1⟩
  icases HV with ⟨%fs, %hfs, Hs⟩
  rw [owed_send]
  iapply (Rounds.wp_send_pointsTo 𝒱₀ ER (rd blk res) (c : Thread nD τ) none (c' := (onto (dir x) c : Thread nD τ)) (src := srcV x) (dst := dstV x)
      (sS := .dma (ssem x)) (sem := .dma (rsem x)) (q := sh x) (fs := fs) (κ₁ := K (sCell c x)) (κ₂ := K (rCell (onto (dir x) c) x))
      (r₁ := 0) (r₂ := 0) (d₁ := 0) (d₂ := 0) (fd := fd)
      (by rw [duties_s]; exact Finset.mem_singleton_self _) (by rw [duties_r]; exact Finset.mem_singleton_self _)
      () () N (N_eq x) (amount_s blk res c x 0) (amount_r blk res _ x 0) (owed c (tS x + 1)) rfl (W := W)
      (by rw [payload_s, ← hfs]; exact owns_intro _ _ _ _)
      (by
        rw [payload_r, landed_onto, ← hfs]
        refine (owns_intro _ _ _ _).trans (Entails.of_eq ?_)
        rw [View.read_write_univ])) $$ [Hs Hd HO Ht1 Ht2]
  · isplitr; · iapply (recs_cell blk res K (s_mem c x)); iexact Hrec
    isplitr; · iapply (recs_cell blk res K (r_mem (onto (dir x) c) x)); iexact Hrec
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨HcS, HO⟩
  rw [wp_ret]
  imodintro
  iapply Hk
  isplitl [HO]; · iexists W; iexact HO
  isplitl [HSk HcS Hat]
  · iapply HSk
    isplitl [HcS] <;> iassumption
  isplitl [HR]; · iexact HR
  iapply HVk
  iempintro

/-- The wait for a chunk to come in: its tile is split between reading and passing on. -/
theorem run_recv (c : Dev nD) (x : X) (Q : PUnit → sProp 𝕄) :
    iprop(recs blk res K ∗ holds blk c (tR x)) ⊢ iprop((holds blk c (tR x + 1) -∗ Q ⟨⟩)
      -∗ wp frame (wpE (defs₀ (F := F)) 𝒱₀ (c : Thread nD τ) none) Set.univ (recvOp (F := F) x) Q) := by
  have hneS : ∀ y : X, tS y ≠ tR x := fun y => tS_ne_tR y x
  have hneW : ∀ y : X, tW y ≠ tR x := fun y => by have := tR_lt x; have := le_tW y; omega
  have hM : (recs blk res K : sProp 𝕄) ⊢ MayWait (c : Thread nD τ) (.dma (rsem x)) () (owed c (tR x)) :=
    BIBase.Entails.trans (recs_lev blk res K) (mayWait_r (F := F) c x)
  have hV : iprop((if fwd x then ownsTc c (dstV x) hR (landed blk x c) else iprop(emp)) ∗ bigSep Finset.univ (srcSide blk c (tR x)))
      ⊢ (bigSep Finset.univ (srcSide blk c (tR x + 1)) : sProp 𝕄) := by
    by_cases h : fwd x
    · rw [if_pos h]
      have hl := later_next x h
      have hp := prev_next x h
      iintro ⟨H, HV⟩
      ihave HV' := (bigSep_univ_update (Φ := srcSide blk c (tR x)) (Ψ := srcSide blk c (tR x + 1)) (next x h)
        (fun y hy => srcSide_stay blk c (hneS y) (hneW y) fun hly e => hy (by
          have e' := tR_inj e; subst e'; exact (next_prev y hly).symm))) $$ HV
      icases HV' with ⟨-, HVk⟩
      iapply HVk
      have ht : tR x < tS (next x h) := by have := tR_prev_lt (next x h) hl; rwa [hp] at this
      unfold srcSide
      rw [if_pos (show inHand (tR x + 1) (next x h) from ⟨fun _ => by rw [hp]; omega, .inl ht⟩),
        srcV_later _ hl, hp, sent_next, show sh (next x h) = hR from if_pos hl]
      iexact H
    · rw [if_neg h, bigSep_congr (fun y _ => srcSide_stay blk c (n := tR x) (x := y) (hneS y) (hneW y) fun hl e => by
        have e' := tR_inj e; exact h (e' ▸ fwd_prev y hl))]
      iintro ⟨-, H⟩; iexact H
  unfold holds recvOp Prog.lift
  iintro ⟨#Hrec, ⟨%W, HO⟩, HS, HR, HV⟩ Hk
  ihave HR' := (bigSep_univ_update (Φ := rcvSide blk c (tR x)) (Ψ := rcvSide blk c (tR x + 1)) x
    (fun y hy => rcvSide_stay blk c (fun e => hy (tR_inj e)))) $$ HR
  icases HR' with ⟨HR, HRk⟩
  ihave HS := (Entails.of_eq (bigSep_congr (fun y _ => (sndSide_stay c (n := tR x) (x := y) (hneS y) (hneW y)).symm))) $$ HS
  ihave HR := (Entails.of_eq (show rcvSide blk c (tR x) x = rcvPre c x from if_pos (le_refl _))) $$ HR
  rw [owed_stay c _ hneS, show rcvSide blk c (tR x + 1) x = rcvPost blk c x from if_neg (by omega)]
  unfold rcvPre rcvPost
  icases HR with ⟨HcV, Hat⟩
  iapply (Rounds.wp_wait_rest_token 𝒱₀ ER (rd blk res) (c : Thread nD τ) none (κ := K (rCell c x))
      (wpE_waitDma2_eq (src := dstV x) (dst := dstV x) 𝒱₀ (c : Thread nD τ) none Set.univ) (Set.mem_univ _) () (O := owed c (tR x)) (W := W) (R := 0) (m := 0) (T := ∅)
      ((Nat.zero_add _).trans ((N_eq x).trans (expect_r blk res c x).symm))) $$ [HcV HO Hat]
  · isplitr; · iapply (recs_cell blk res K (r_mem c x)); iexact Hrec
    isplitl [HcV]; · rw [N_eq x]; iexact HcV
    isplitl [HO]; · iexact HO
    isplitr; · iapply hM; iexact Hrec
    iexact Hat
  iintro ⟨HO, Hat, -, Hpay⟩
  ihave Hp := (Entails.of_eq (rest_r blk res c x)) $$ Hpay
  ihave Hp' := (owns_halves (c : Thread nD τ) (dstV x) fullShare (landed blk x c)).1 $$ Hp
  icases Hp' with ⟨HpL, HpR⟩
  rw [wp_ret]
  imod (close blk res (K (rCell c x)) (rCell c x)) $$ [Hat] with Hv
  · isplitr; · iapply (recs_cell blk res K (r_mem c x)); iexact Hrec
    iexact Hat
  imodintro
  iapply Hk
  isplitl [HO]; · iexists _; iexact HO
  isplitl [HS]; · iexact HS
  by_cases h : fwd x
  · simp only [if_pos h] at hV ⊢
    isplitl [HRk Hv HpL]
    · iapply HRk
      isplitl [Hv]; · iexact Hv
      isplitl [HpL]; · iexact HpL
      iempintro
    iapply hV
    isplitl [HpR] <;> iassumption
  · simp only [if_neg h] at hV ⊢
    isplitl [HRk Hv HpL HpR]
    · iapply HRk
      isplitl [Hv]; · iexact Hv
      isplitl [HpL] <;> iassumption
    iapply hV
    isplitr; · iempintro
    iexact HV

/-- The wait for a chunk to have left: the source comes back. -/
theorem run_left (c : Dev nD) (x : X) (Q : PUnit → sProp 𝕄) :
    iprop(recs blk res K ∗ holds blk c (tW x)) ⊢ iprop((holds blk c (tW x + 1) -∗ Q ⟨⟩)
      -∗ wp frame (wpE (defs₀ (F := F)) 𝒱₀ (c : Thread nD τ) none) Set.univ (leftOp (F := F) x) Q) := by
  have h136 := le_tW x
  have hneS : ∀ y : X, tS y ≠ tW x := fun y => by have := tS_lt y; omega
  have hneR : ∀ y : X, tR y ≠ tW x := fun y => by have := tR_lt y; omega
  unfold holds leftOp Prog.lift
  iintro ⟨#Hrec, ⟨%W, HO⟩, HS, HR, HV⟩ Hk
  ihave HS' := (bigSep_univ_update (Φ := sndSide c (tW x)) (Ψ := sndSide c (tW x + 1)) x
    (fun y hy => sndSide_stay c (hneS y) (fun e => hy (tW_inj e)))) $$ HS
  icases HS' with ⟨HS, HSk⟩
  ihave HV' := (bigSep_univ_update (Φ := srcSide blk c (tW x)) (Ψ := srcSide blk c (tW x + 1)) x
    (fun y hy => srcSide_stay blk c (hneS y) (fun e => hy (tW_inj e)) fun _ => hneR (prev y))) $$ HV
  icases HV' with ⟨-, HVk⟩
  have hSx := tS_lt x
  ihave HR := (Entails.of_eq (bigSep_congr (fun y _ => (rcvSide_stay blk c (n := tW x) (x := y) (hneR y)).symm))) $$ HR
  ihave HS := (Entails.of_eq (show (sndSide c (tW x) x : sProp 𝕄) = sndMid c x from (if_neg (by omega)).trans (if_pos (le_refl _)))) $$ HS
  rw [owed_done c _ h136, owed_done c (tW x + 1) (by omega),
    show (sndSide c (tW x + 1) x : sProp 𝕄) = sndPost c x from (if_neg (by omega)).trans (if_neg (by omega)),
    show srcSide blk c (tW x + 1) x = ownsTc c (srcV x) (sh x) (sent blk x c) from
      if_pos ⟨fun _ => by have := tR_lt (prev x); omega, .inr (by omega)⟩]
  unfold sndMid sndPost
  icases HS with ⟨HcS, Hat⟩
  iapply (Rounds.wp_wait_rest_token 𝒱₀ ER (rd blk res) (c : Thread nD τ) none (κ := K (sCell c x))
      (wpE_waitDma2_eq (src := dstV x) (dst := srcV x) 𝒱₀ (c : Thread nD τ) none Set.univ) (Set.mem_univ _) () (O := 0) (W := W) (R := 0) (m := 0) (T := ∅)
      ((Nat.zero_add _).trans ((N_src x).trans (expect_s blk res c x).symm))) $$ [HcS HO Hat]
  · isplitr; · iapply (recs_cell blk res K (s_mem c x)); iexact Hrec
    isplitl [HcS]; · rw [N_src]; iexact HcS
    isplitl [HO]; · iexact HO
    isplitr; · rw [MayWait_zero]; iempintro
    iexact Hat
  iintro ⟨HO, Hat, -, Hpay⟩
  ihave Hp := (Entails.of_eq (rest_s blk res c x)) $$ Hpay
  rw [wp_ret]
  imod (close blk res (K (sCell c x)) (sCell c x)) $$ [Hat] with Hv
  · isplitr; · iapply (recs_cell blk res K (s_mem c x)); iexact Hrec
    iexact Hat
  imodintro
  iapply Hk
  isplitl [HO]; · iexists _; iexact HO
  isplitl [HSk Hv]; · iapply HSk; iexact Hv
  isplitl [HR]; · iexact HR
  iapply HVk
  iexact Hp

/-! ## Lists of events -/

/-- Event `e` is the one of time `n`. -/
def okAt (n : ℕ) : Ev → Prop
  | .send x => tS x = n
  | .recv x => tR x = n
  | .left x => tW x = n
  | .skip => (∀ x, tS x ≠ n) ∧ (∀ x, tR x ≠ n) ∧ ∀ x, tW x ≠ n
instance (n : ℕ) (e : Ev) : Decidable (okAt n e) := by cases e <;> (unfold okAt; infer_instance)
/-- The list is the events from time `n` on. -/
def okFrom : ℕ → List Ev → Prop
  | _, [] => True
  | n, e :: es => okAt n e ∧ okFrom (n + 1) es
instance okFrom_dec : (n : ℕ) → (es : List Ev) → Decidable (okFrom n es)
  | _, [] => .isTrue trivial
  | n, e :: es => @instDecidableAnd _ _ _ (okFrom_dec (n + 1) es)

theorem run_op (c : Dev nD) (n : ℕ) (e : Ev) (h : okAt n e) (Q : PUnit → sProp 𝕄) :
    iprop(recs blk res K ∗ holds blk c n) ⊢ iprop((holds blk c (n + 1) -∗ Q ⟨⟩)
      -∗ wp frame (wpE (defs₀ (F := F)) 𝒱₀ (c : Thread nD τ) none) Set.univ (op (F := F) (onto 0 c) (onto 1 c) e) Q) := by
  match e with
  | .send x =>
    subst h
    rw [show op (F := F) (onto 0 c) (onto 1 c) (.send x) = sendOp (onto (dir x) c) x from by
      show sendOp (match dir x with | 0 => onto 0 c | 1 => onto 1 c) x = _
      generalize dir x = d
      match d with | 0 => rfl | 1 => rfl]
    exact run_send blk res K c x Q
  | .recv x => subst h; exact run_recv blk res K c x Q
  | .left x => subst h; exact run_left blk res K c x Q
  | .skip =>
    rw [holds_skip blk c n h.1 h.2.1 h.2.2]
    show _ ⊢ iprop(_ -∗ wp _ _ _ (Prog.ret ⟨⟩) Q)
    rw [wp_ret]
    iintro ⟨-, H⟩ Hk
    imodintro
    iapply Hk; iexact H

/-- A run of events takes the holding from its first time to the time after its last. -/
theorem run_ops (c : Dev nD) (n : ℕ) (es : List Ev) (h : okFrom n es) (Q : PUnit → sProp 𝕄) :
    iprop(recs blk res K ∗ holds blk c n) ⊢ iprop((holds blk c (n + es.length) -∗ Q ⟨⟩)
      -∗ wp frame (wpE (defs₀ (F := F)) 𝒱₀ (c : Thread nD τ) none) Set.univ (ops (F := F) (onto 0 c) (onto 1 c) es) Q) := by
  induction es generalizing n with
  | nil =>
    show _ ⊢ iprop(_ -∗ wp _ _ _ (Prog.ret ⟨⟩) Q)
    rw [wp_ret]
    iintro ⟨-, H⟩ Hk
    imodintro
    iapply Hk; iexact H
  | cons e es ih =>
    unfold ops
    rw [Idealize.SL.Sem.wp_bind]
    iintro ⟨#Hrec, H⟩ Hk
    iapply (run_op blk res K c n e h.1) $$ [H]
    · isplitr; · iexact Hrec
      iexact H
    iintro H
    iapply (ih (n + 1) h.2) $$ [H]
    · isplitr; · iexact Hrec
      iexact H
    rw [List.length_cons, show n + 1 + es.length = n + (es.length + 1) from by omega]
    iexact Hk

theorem ok_own : okFrom 0 ownEvs := by decide +kernel
theorem ok_hop (h : Fin 8) : okFrom (8 + 16 * h.val) (hopEvs h.val) := by revert h; decide +kernel
theorem ok_left : okFrom 136 leftAll := by decide +kernel

end Cert.KernelIdeal.Around
-- ==== Proof.KernelIdeal.Products.lean ====
/-
The products between the events.

What a gather buffer holds, row by row, is one function of the devices' blocks; the rows already come in are read as
rows of that function, so the loads of a hop give the two blocks that hop has brought.
-/
module

public import proofs.«01_k».proof.Proof.KernelIdeal.Steps

@[expose] public section

set_option maxRecDepth 100000

noncomputable section

namespace Cert.KernelIdeal.Around

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (blk : Blocks F) (res : Results F)

/-! ## What the gather buffers hold -/

/-- The row tile a row of a gather buffer lies in, -/
def rowTile (i : S960x1024.Idx) : Fin 30 := ⟨(i 0).val / 32, by have : (i 0).val < 960 := (i 0).isLt; omega⟩
/-- and the element of a block that is put there. -/
def inBlk (i : S960x1024.Idx) : S64x1024.Idx := fun a =>
  ⟨(![(i 0).val % 64, (i 1).val] : Fin 2 → ℕ) a, by
    have h0 : (i 0).val % 64 < 64 := Nat.mod_lt _ (by decide)
    have h1 : (i 1).val < 1024 := (i 1).isLt
    fin_cases a
    · exact h0
    · exact h1⟩
/-- What device `c`'s gather buffer of stream `s` holds once everything has come in. -/
def G (s : Fin 2) (c : Dev nD) : S960x1024.Idx → Elt F .bf16 := fun i =>
  blk s (back (dir (s, rowTile i)) (hop (s, rowTile i) + 1) c) (inBlk i)

theorem rowTile_emb (ρ : Fin 30) (j : S32x1024.Idx) : rowTile ((gR ρ).emb j) = ρ := by
  have h : (j 0).val < 32 := (j 0).isLt
  refine Fin.ext ?_
  show (32 * ρ.val + 1 * (j 0).val) / 32 = ρ.val
  omega
theorem inBlk_emb (x : X) (j : S32x1024.Idx) : inBlk ((gR x.2).emb j) = (oR (half x)).emb j := by
  have h : (j 0).val < 32 := (j 0).isLt
  funext a
  refine Fin.ext ?_
  match a with
  | 0 =>
    show (32 * x.2.val + 1 * (j 0).val) % 64 = 32 * (x.2.val % 2) + 1 * (j 0).val
    omega
  | 1 => rfl
/-- A landed chunk is rows of it. -/
theorem landed_eq (x : X) (c : Dev nD) : landed blk x c = fun j => G blk x.1 c ((gR x.2).emb j) := by
  funext j
  unfold G landed
  rw [rowTile_emb, inBlk_emb]

/-- The same as contents of the buffer; -/
def gBuf (s : Fin 2) (c : Dev nD) : (gM s).view.ty.Contents (Elt F) :=
  match s with
  | 0 => G blk 0 c
  | 1 => G blk 1 c
theorem read_gBuf (s : Fin 2) (c : Dev nD) : (gM s).view.read (Elt F) (gBuf blk s c) = G blk s c := by
  match s with
  | 0 => rfl
  | 1 => rfl
theorem access_gBuf (s : Fin 2) (c : Dev nD) (r : Rect S960x1024) :
    ((gM s).access r).read (Elt F) (gBuf blk s c) = fun j => G blk s c (r.emb j) := by
  match s with
  | 0 => rfl
  | 1 => rfl
/-- and a device's own block as contents of its buffer. -/
def oBuf (s : Fin 2) (c : Dev nD) : (oM s).view.ty.Contents (Elt F) :=
  match s with
  | 0 => blk 0 c
  | 1 => blk 1 c
theorem access_oBuf (s : Fin 2) (c : Dev nD) (r : Rect S64x1024) :
    ((oM s).access r).read (Elt F) (oBuf blk s c) = fun j => blk s c (r.emb j) := by
  match s with
  | 0 => rfl
  | 1 => rfl
theorem owns_oM (s : Fin 2) (c : Dev nD) (q : PosShare TreeShare) :
    (ownsTc c (oM s) q (blk s c) : sProp 𝕄) = ((oM s).view.loc (c : Thread nD τ) ↦[Finset.univ]{q} oBuf blk s c) := by
  match s with
  | 0 => exact owns_whole (c : Thread nD τ) cc0_stg1_0 q (blk 0 c)
  | 1 => exact owns_whole (c : Thread nD τ) cc0_scratch2 q (blk 1 c)

/-! ## Rows come in, gathered -/

/-- The rows of some row tiles. -/
def rows (s : Fin 2) (c : Dev nD) (T : Finset (Fin 30)) : Finset (Idx ((gM s).view.loc (c : Thread nD τ))) :=
  T.biUnion fun ρ => ((gM s).view.slice (gR ρ)).set

theorem gR_disjoint {ρ ρ' : Fin 30} (h : ρ ≠ ρ') : Disjoint (gR ρ).set (gR ρ').set := by
  rw [Finset.disjoint_left]
  intro i hi hi'
  have a := (Rect.mem_set_unit.mp hi) 0
  have b := (Rect.mem_set_unit.mp hi') 0
  have a1 : 32 * ρ.val ≤ (i 0).val := a.1
  have a2 : (i 0).val < 32 * ρ.val + 32 := a.2
  have b1 : 32 * ρ'.val ≤ (i 0).val := b.1
  have b2 : (i 0).val < 32 * ρ'.val + 32 := b.2
  exact h (Fin.ext (by omega))
theorem tiles_disjoint (s : Fin 2) {ρ ρ' : Fin 30} (h : ρ ≠ ρ') :
    Disjoint ((gM s).view.slice (gR ρ)).set ((gM s).view.slice (gR ρ')).set := by
  rw [View.set_slice, View.set_slice, Finset.disjoint_map]
  exact gR_disjoint h
/-- A rectangle of rows that some tiles cover. -/
theorem access_subset (s : Fin 2) (c : Dev nD) (T : Finset (Fin 30)) (r : Rect S960x1024) (h : ∀ i ∈ r.set, rowTile i ∈ T) :
    ((gM s).access r).set ⊆ rows s c T := by
  intro i hi
  change i ∈ ((gM s).view.slice r).set at hi
  rw [View.set_slice] at hi
  obtain ⟨y, hy, rfl⟩ := Finset.mem_map.mp hi
  refine Finset.mem_biUnion.mpr ⟨rowTile y, h y hy, ?_⟩
  rw [View.set_slice]
  refine Finset.mem_map_of_mem _ (Rect.mem_set_unit.mpr fun a => ?_)
  match a with
  | 0 =>
    have h0 : 32 * ((y 0).val / 32) ≤ (y 0).val ∧ (y 0).val < 32 * ((y 0).val / 32) + 32 := ⟨by omega, by omega⟩
    exact h0
  | 1 => exact ⟨Nat.zero_le _, by have : (y 1).val < 1024 := (y 1).isLt; simpa using this⟩

/-- The tiles held separately are their rows held together. -/
theorem gather (s : Fin 2) (c : Dev nD) (q : PosShare TreeShare) (T : Finset (Fin 30)) :
    (bigSep T fun ρ => (ownsTc c (dstV (s, ρ)) q (landed blk (s, ρ) c) : sProp 𝕄))
      = ((gM s).view.loc (c : Thread nD τ) ↦[rows s c T]{q} gBuf blk s c) := by
  refine Eq.trans (bigSep_congr fun ρ _ => ?_)
    (pointsTo_biUnion (ℓ := (gM s).view.loc (c : Thread nD τ)) T (fun ρ => ((gM s).view.slice (gR ρ)).set) (fun ρ _ ρ' _ h => tiles_disjoint s h)).symm
  rw [landed_eq, ← owns_slice_read (c : Thread nD τ) (gM s) q (gR ρ) (fun _ => rfl) (gBuf blk s c), read_gBuf]
  rfl

/-- Out of the holding the rows of tiles that have come in, under the reading share, and back. -/
theorem take (c : Dev nD) (n : ℕ) (T : Finset (Fin 30)) (hT : ∀ ρ ∈ T, ∀ s, tR (s, ρ) < n) :
    (bigSep Finset.univ (rcvSide blk c n) : sProp 𝕄)
      ⊢ iprop(((gM 0).view.loc (c : Thread nD τ) ↦[rows 0 c T]{hL} gBuf blk 0 c)
        ∗ ((gM 1).view.loc (c : Thread nD τ) ↦[rows 1 c T]{hL} gBuf blk 1 c)
        ∗ (((gM 0).view.loc (c : Thread nD τ) ↦[rows 0 c T]{hL} gBuf blk 0 c)
          -∗ ((gM 1).view.loc (c : Thread nD τ) ↦[rows 1 c T]{hL} gBuf blk 1 c) -∗ bigSep Finset.univ (rcvSide blk c n))) := by
  classical
  have hs : ∀ s : Fin 2, (bigSep T (fun ρ => rcvSide blk c n (s, ρ)) : sProp 𝕄)
      = iprop(((gM s).view.loc (c : Thread nD τ) ↦[rows s c T]{hL} gBuf blk s c)
        ∗ bigSep T fun ρ => iprop(semVal (rCell c (s, ρ)) 0 ∗ (if fwd (s, ρ) then iprop(emp) else ownsTc c (dstV (s, ρ)) hR (landed blk (s, ρ) c)))) := by
    intro s
    rw [← gather, ← bigSep_sep']
    refine bigSep_congr fun ρ hρ => ?_
    rw [show rcvSide blk c n (s, ρ) = rcvPost blk c (s, ρ) from if_neg (by have := hT ρ hρ s; omega)]
    unfold rcvPost
    have e₁ : (iprop(semVal (rCell c (s, ρ)) 0 ∗ ownsTc c (dstV (s, ρ)) hL (landed blk (s, ρ) c) ∗ (if fwd (s, ρ) then iprop(emp) else ownsTc c (dstV (s, ρ)) hR (landed blk (s, ρ) c))) : sProp 𝕄)
        ⊢ iprop(ownsTc c (dstV (s, ρ)) hL (landed blk (s, ρ) c) ∗ semVal (rCell c (s, ρ)) 0 ∗ (if fwd (s, ρ) then iprop(emp) else ownsTc c (dstV (s, ρ)) hR (landed blk (s, ρ) c))) := by
      iintro ⟨A, B, C⟩
      isplitl [B]; · iexact B
      isplitl [A] <;> iassumption
    have e₂ : (iprop(ownsTc c (dstV (s, ρ)) hL (landed blk (s, ρ) c) ∗ semVal (rCell c (s, ρ)) 0 ∗ (if fwd (s, ρ) then iprop(emp) else ownsTc c (dstV (s, ρ)) hR (landed blk (s, ρ) c))) : sProp 𝕄)
        ⊢ iprop(semVal (rCell c (s, ρ)) 0 ∗ ownsTc c (dstV (s, ρ)) hL (landed blk (s, ρ) c) ∗ (if fwd (s, ρ) then iprop(emp) else ownsTc c (dstV (s, ρ)) hR (landed blk (s, ρ) c))) := by
      iintro ⟨B, A, C⟩
      isplitl [A]; · iexact A
      isplitl [B] <;> iassumption
    exact Idealize.SL.BI.Entails.antisymm e₁ e₂
  have hT' : ∀ s : Fin 2, (bigSep Finset.univ (fun ρ => rcvSide blk c n (s, ρ)) : sProp 𝕄)
      = iprop(bigSep T (fun ρ => rcvSide blk c n (s, ρ)) ∗ bigSep Tᶜ (fun ρ => rcvSide blk c n (s, ρ))) := fun s =>
    Eq.trans (by rw [Finset.union_compl]) (bigSep_union (disjoint_compl_right (a := T)) (Φ := fun ρ => rcvSide blk c n (s, ρ)))
  rw [bigSep_univ_prod, bigSep_univ_two, hT', hT', hs, hs]
  iintro ⟨⟨⟨A, B⟩, C⟩, ⟨D, E⟩, H⟩
  isplitl [A]; · iexact A
  isplitl [D]; · iexact D
  iintro A D
  isplitl [A B C]
  · isplitl [A B]
    · isplitl [A] <;> iassumption
    iexact C
  isplitl [D E]
  · isplitl [D] <;> iassumption
  iexact H

/-! ## The loads -/

/-- The accumulators after a device's own blocks, -/
def acc0 (c : Dev nD) : Acc F × Acc F :=
  (k0_pay2 (fun j => blk 0 c (ownRows.emb j)) (fun j => blk 1 c ((ownCols 0).emb j)),
    k0_pay3 (fun j => blk 0 c (ownRows.emb j)) (fun j => blk 1 c ((ownCols 1).emb j)))
/-- after one more hop, -/
def accHop (c : Dev nD) (h : Fin 7) (a : Acc F × Acc F) : Acc F × Acc F :=
  (k0_pay4 a.1 (fun j => G blk 0 c ((hopRows h).emb j)) (fun j => G blk 1 c ((hopCols h 0).emb j)),
    k0_pay5 a.2 (fun j => G blk 0 c ((hopRows h).emb j)) (fun j => G blk 1 c ((hopCols h 1).emb j)))
/-- after hop 6, -/
def acc7 (c : Dev nD) : Acc F × Acc F :=
  accHop blk c 6 (accHop blk c 5 (accHop blk c 4 (accHop blk c 3 (accHop blk c 2 (accHop blk c 1 (accHop blk c 0 (acc0 blk c)))))))
/-- and what is written to the two halves of the output buffer. -/
def outPair (c : Dev nD) : Fin 2 → FVec F S1x1024x512 .f32
  | 0 => k0_pay18 (acc7 blk c).1 (fun j => G blk 0 c (lastRows.emb j)) (fun j => G blk 1 c ((lastCols 0).emb j))
  | 1 => k0_pay19 (acc7 blk c).2 (fun j => G blk 0 c (lastRows.emb j)) (fun j => G blk 1 c ((lastCols 1).emb j))

/-- A device's own blocks under the reading share. -/
def ownHeld (c : Dev nD) : sProp 𝕄 := iprop(ownsTc c (oM 0) hL (blk 0 c) ∗ ownsTc c (oM 1) hL (blk 1 c))

/-- Four loads, two of each of two buffers whose rows read are held, and what is done with what they give. -/
theorem loads4 {α : Type} {s0 s1 : Shape} (c : Dev nD) (m0 : Memref sig .tc .vmem s0 .bf16) (m1 : Memref sig .tc .vmem s1 .bf16)
    (rx : Rect s0) (w0 w1 : Rect s1) (S0 : Finset (Idx (m0.view.loc (c : Thread nD τ)))) (S1 : Finset (Idx (m1.view.loc (c : Thread nD τ))))
    (hx : (m0.access rx).set ⊆ S0) (h0 : (m1.access w0).set ⊆ S1) (h1 : (m1.access w1).set ⊆ S1)
    (lx lx' : m0.view.LoadsAt rx.toLoadRect) (l0 : m1.view.LoadsAt w0.toLoadRect) (l1 : m1.view.LoadsAt w1.toLoadRect)
    (q : PosShare TreeShare) (f0 : m0.view.ty.Contents (Elt F)) (f1 : m1.view.ty.Contents (Elt F))
    (k : (rx.shape.Idx → Elt F .bf16) → (w0.shape.Idx → Elt F .bf16) → (rx.shape.Idx → Elt F .bf16) → (w1.shape.Idx → Elt F .bf16) → Body F α)
    (Q : α → sProp 𝕄) :
    iprop((m0.view.loc (c : Thread nD τ) ↦[S0]{q} f0) ∗ (m1.view.loc (c : Thread nD τ) ↦[S1]{q} f1))
      ⊢ iprop((((m0.view.loc (c : Thread nD τ) ↦[S0]{q} f0) ∗ (m1.view.loc (c : Thread nD τ) ↦[S1]{q} f1))
          -∗ wp frame (wpE (defs₀ (F := F)) 𝒱₀ (c : Thread nD τ) none) Set.univ
            (k ((m0.access rx).read (Elt F) f0) ((m1.access w0).read (Elt F) f1) ((m0.access rx).read (Elt F) f0) ((m1.access w1).read (Elt F) f1)) Q)
      -∗ wp frame (wpE (defs₀ (F := F)) 𝒱₀ (c : Thread nD τ) none) Set.univ
        (.op (.load m0 rx.toLoadRect lx) fun a => .op (.load m1 w0.toLoadRect l0) fun b =>
          .op (.load m0 rx.toLoadRect lx') fun a' => .op (.load m1 w1.toLoadRect l1) fun b' => k a b a' b') Q) := by
  iintro ⟨H0, H1⟩ Hk
  iapply (wp_load_rect 𝒱₀ (c : Thread nD τ) none Set.univ (m := m0) (r := rx) hx) $$ H0
  iintro H0
  iapply (wp_load_rect 𝒱₀ (c : Thread nD τ) none Set.univ (m := m1) (r := w0) h0) $$ H1
  iintro H1
  iapply (wp_load_rect 𝒱₀ (c : Thread nD τ) none Set.univ (m := m0) (r := rx) hx) $$ H0
  iintro H0
  iapply (wp_load_rect 𝒱₀ (c : Thread nD τ) none Set.univ (m := m1) (r := w1) h1) $$ H1
  iintro H1
  iapply Hk
  isplitl [H0] <;> iassumption

theorem run_dotOwn (c : Dev nD) (Q : Acc F × Acc F → sProp 𝕄) :
    ownHeld blk c ⊢ iprop((ownHeld blk c -∗ Q (acc0 blk c))
      -∗ wp frame (wpE (defs₀ (F := F)) 𝒱₀ (c : Thread nD τ) none) Set.univ (dotOwn (F := F)) Q) := by
  unfold ownHeld
  rw [owns_oM, owns_oM]
  have H := loads4 (F := F) c (oM 0) (oM 1) ownRows (ownCols 0) (ownCols 1) Finset.univ Finset.univ (Finset.subset_univ _) (Finset.subset_univ _)
    (Finset.subset_univ _) (View.loadsAt_vmem h_S64x1024) (View.loadsAt_vmem h_S64x1024) (View.loadsAt_vmem h_S64x512) (View.loadsAt_vmem h_S64x512)
    hL (oBuf blk 0 c) (oBuf blk 1 c) (fun x0 w0 x1 w1 => .ret (k0_pay2 x0 w0, k0_pay3 x1 w1)) Q
  rw [wp_ret, access_oBuf, access_oBuf, access_oBuf] at H
  refine BIBase.Entails.trans H (wand_mono_left (wand_mono_right ?_))
  change Q (acc0 blk c) ⊢ iprop(|={Set.univ}=> Q (acc0 blk c))
  iintro HQ
  imodintro
  iexact HQ

/-- The tiles hop `h` fills. -/
def hopTiles (h : ℕ) : Finset (Fin 30) := Finset.univ.filter fun ρ => ρ.val / 4 = h
theorem hopTiles_in (h : ℕ) (n : ℕ) (hn : 8 + 16 * h + 16 ≤ n) : ∀ ρ ∈ hopTiles h, ∀ s, tR (s, ρ) < n := by
  intro ρ hρ s
  have e := (Finset.mem_filter.mp hρ).2
  have : s.val < 2 := s.isLt
  simp only [tR]; omega
theorem hopTiles_of (h : ℕ) (r : Rect S960x1024) (o : ℕ) (ho : ∀ i ∈ r.set, 128 * h ≤ (i 0).val ∧ (i 0).val < 128 * h + 128) :
    ∀ i ∈ r.set, rowTile i ∈ hopTiles h := fun i hi => Finset.mem_filter.mpr ⟨Finset.mem_univ _, by
  have := ho i hi
  show (i 0).val / 32 / 4 = h
  omega⟩
theorem hopRows_in (h : Fin 7) : ∀ i ∈ (hopRows h).set, rowTile i ∈ hopTiles h.val :=
  hopTiles_of _ _ 0 fun i hi => by
    have a := (Rect.mem_set_unit.mp hi) 0
    exact ⟨a.1, a.2⟩
theorem hopCols_in (h : Fin 7) (k : Fin 2) : ∀ i ∈ (hopCols h k).set, rowTile i ∈ hopTiles h.val :=
  hopTiles_of _ _ 0 fun i hi => by
    have a := (Rect.mem_set_unit.mp hi) 0
    exact ⟨a.1, a.2⟩
theorem lastRows_in : ∀ i ∈ lastRows.set, rowTile i ∈ hopTiles 7 :=
  hopTiles_of _ _ 0 fun i hi => by
    have a := (Rect.mem_set_unit.mp hi) 0
    have a2 : (i 0).val < 896 + 64 := a.2
    exact ⟨a.1, by omega⟩
theorem lastCols_in (k : Fin 2) : ∀ i ∈ (lastCols k).set, rowTile i ∈ hopTiles 7 :=
  hopTiles_of _ _ 0 fun i hi => by
    have a := (Rect.mem_set_unit.mp hi) 0
    have a2 : (i 0).val < 896 + 64 := a.2
    exact ⟨a.1, by omega⟩

/-- The four loads of a hop and what is done with what they give, the rows having come in. -/
theorem run_loads {α : Type} (c : Dev nD) (n h : ℕ) (hn : 8 + 16 * h + 16 ≤ n) (rx w0 w1 : Rect S960x1024)
    (hx : ∀ i ∈ rx.set, rowTile i ∈ hopTiles h) (h0 : ∀ i ∈ w0.set, rowTile i ∈ hopTiles h) (h1 : ∀ i ∈ w1.set, rowTile i ∈ hopTiles h)
    (lx lx' : (gM 0).view.LoadsAt rx.toLoadRect) (l0 : (gM 1).view.LoadsAt w0.toLoadRect) (l1 : (gM 1).view.LoadsAt w1.toLoadRect)
    (k : (rx.shape.Idx → Elt F .bf16) → (w0.shape.Idx → Elt F .bf16) → (rx.shape.Idx → Elt F .bf16) → (w1.shape.Idx → Elt F .bf16) → Body F α)
    (Q : α → sProp 𝕄) :
    holds blk c n ⊢ iprop((holds blk c n -∗ wp frame (wpE (defs₀ (F := F)) 𝒱₀ (c : Thread nD τ) none) Set.univ
          (k (fun j => G blk 0 c (rx.emb j)) (fun j => G blk 1 c (w0.emb j)) (fun j => G blk 0 c (rx.emb j)) (fun j => G blk 1 c (w1.emb j))) Q)
      -∗ wp frame (wpE (defs₀ (F := F)) 𝒱₀ (c : Thread nD τ) none) Set.univ
        (.op (.load (gM 0) rx.toLoadRect lx) fun a => .op (.load (gM 1) w0.toLoadRect l0) fun b =>
          .op (.load (gM 0) rx.toLoadRect lx') fun a' => .op (.load (gM 1) w1.toLoadRect l1) fun b' => k a b a' b') Q) := by
  unfold holds
  iintro ⟨HO, HS, HR, HV⟩ Hk
  ihave HR' := (take blk c n (hopTiles h) (hopTiles_in h n hn)) $$ HR
  icases HR' with ⟨H0, H1, HRk⟩
  iapply (loads4 (F := F) c (gM 0) (gM 1) rx w0 w1 (rows 0 c (hopTiles h)) (rows 1 c (hopTiles h)) (access_subset 0 c _ rx hx) (access_subset 1 c _ w0 h0)
    (access_subset 1 c _ w1 h1) lx lx' l0 l1 hL (gBuf blk 0 c) (gBuf blk 1 c) k Q) $$ [H0 H1]
  · isplitl [H0] <;> iassumption
  iintro ⟨H0, H1⟩
  simp only [access_gBuf]
  iapply Hk
  isplitl [HO]; · iexact HO
  isplitl [HS]; · iexact HS
  isplitl [HRk H0 H1]
  · iapply HRk $$ [H0] [H1]
    · iexact H0
    · iexact H1
  iexact HV

theorem run_dots (c : Dev nD) (n : ℕ) (h : Fin 7) (hn : 8 + 16 * h.val + 16 ≤ n) (a : Acc F × Acc F) (Q : Acc F × Acc F → sProp 𝕄) :
    holds blk c n ⊢ iprop((holds blk c n -∗ Q (accHop blk c h a))
      -∗ wp frame (wpE (defs₀ (F := F)) 𝒱₀ (c : Thread nD τ) none) Set.univ (dots (F := F) h a) Q) := by
  have H := run_loads blk c n h.val hn (hopRows h) (hopCols h 0) (hopCols h 1) (hopRows_in h) (hopCols_in h 0) (hopCols_in h 1)
    (View.loadsAt_vmem h_S128x1024) (View.loadsAt_vmem h_S128x1024) (View.loadsAt_vmem h_S128x512) (View.loadsAt_vmem h_S128x512)
    (fun x0 w0 x1 w1 => .ret (k0_pay4 a.1 x0 w0, k0_pay5 a.2 x1 w1)) Q
  rw [wp_ret] at H
  refine BIBase.Entails.trans H (wand_mono_left (wand_mono_right ?_))
  change Q (accHop blk c h a) ⊢ iprop(|={Set.univ}=> Q (accHop blk c h a))
  iintro HQ
  imodintro
  iexact HQ

end Cert.KernelIdeal.Around
-- ==== Proof.KernelIdeal.Finish.lean ====
/-
The last product and the copies of the result out.
-/
module

public import proofs.«01_k».proof.Proof.KernelIdeal.Products

@[expose] public section

set_option maxRecDepth 100000

noncomputable section

namespace Cert.KernelIdeal.Around

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (blk : Blocks F) (K : GSem nD τ sig → ℕ)

/-- The two halves of a device's result, as matrices. -/
def resOf : Results F := fun i c y => outPair blk c i (Shape.reshapeEquiv squeezes_S1x1024x512_S1024x512.numel_eq y)
/-- The result: the halves side by side. -/
def out (c : Dev nD) : S1024x1024.Idx → Elt F .f32 := fun i =>
  resOf blk ⟨(i 1).val / 512, by have : (i 1).val < 1024 := (i 1).isLt; omega⟩ c (fun a =>
    ⟨(![(i 0).val, (i 1).val % 512] : Fin 2 → ℕ) a, by
      have h0 : (i 0).val < 1024 := (i 0).isLt
      have h1 : (i 1).val % 512 < 512 := Nat.mod_lt _ (by decide)
      match a with
      | 0 => exact h0
      | 1 => exact h1⟩)
theorem out_emb (c : Dev nD) (i : Fin 2) (j : S1024x512.Idx) : out blk c ((outC i).emb j) = resOf blk i c j := by
  have h1 : (j 1).val < 512 := (j 1).isLt
  unfold out
  congr 1
  · refine Fin.ext ?_
    show (512 * i.val + 1 * (j 1).val) / 512 = i.val
    omega
  · funext a
    refine Fin.ext ?_
    match a with
    | 0 =>
      show 0 + 1 * (j 0).val = (j 0).val
      omega
    | 1 =>
      show (512 * i.val + 1 * (j 1).val) % 512 = (j 1).val
      omega

/-! ## The buffers in halves -/

theorem outC_set (i : Fin 2) (x : S1024x1024.Idx) : x ∈ (outC i).set ↔ (x 1).val / 512 = i.val := by
  have hx0 : (x 0).val < 1024 := (x 0).isLt
  constructor
  · intro h
    have b := (Rect.mem_set_unit.mp h) 1
    have b1 : 512 * i.val ≤ (x 1).val := b.1
    have b2 : (x 1).val < 512 * i.val + 512 := b.2
    omega
  · intro h
    refine Rect.mem_set_unit.mpr fun a => ?_
    match a with
    | 0 => exact ⟨Nat.zero_le _, by simpa using hx0⟩
    | 1 =>
      have h1 : 512 * i.val ≤ (x 1).val ∧ (x 1).val < 512 * i.val + 512 := ⟨by omega, by omega⟩
      exact h1
theorem outR_set (i : Fin 2) (x : S2x1024x512.Idx) : x ∈ (outR i).set ↔ (x 0).val = i.val := by
  have hx1 : (x 1).val < 1024 := (x 1).isLt
  have hx2 : (x 2).val < 512 := (x 2).isLt
  constructor
  · intro h
    have b := (Rect.mem_set_unit.mp h) 0
    have b1 : i.val ≤ (x 0).val := b.1
    have b2 : (x 0).val < i.val + 1 := b.2
    omega
  · intro h
    refine Rect.mem_set_unit.mpr fun a => ?_
    match a with
    | 0 =>
      have h1 : i.val ≤ (x 0).val ∧ (x 0).val < i.val + 1 := ⟨by omega, by omega⟩
      exact h1
    | 1 => exact ⟨Nat.zero_le _, by simpa using hx1⟩
    | 2 => exact ⟨Nat.zero_le _, by simpa using hx2⟩

/-- Elements of half `i` of the output buffer, -/
abbrev bHalf (c : Dev nD) (i : Fin 2) : Finset (Idx (bM.view.loc (c : Thread nD τ))) := (outR i).set
/-- and of the result. -/
abbrev oHalf (c : Dev nD) (i : Fin 2) : Finset (Idx ((Memref.whole main_v2).view.loc (c : Thread nD τ))) := (outC i).set

theorem b_halves (c : Dev nD) (f : bM.view.ty.Contents (Elt F)) :
    (bM.view.loc (c : Thread nD τ) ↦{fullShare} f : sProp 𝕄)
      = iprop((bM.view.loc (c : Thread nD τ) ↦[bHalf c 0]{fullShare} f) ∗ (bM.view.loc (c : Thread nD τ) ↦[bHalf c 1]{fullShare} f)) := by
  have h : Finset.univ.biUnion (bHalf c) = Finset.univ := by
    refine Finset.eq_univ_of_forall fun x => Finset.mem_biUnion.mpr ?_
    have : ((show S2x1024x512.Idx from x) 0).val < 2 := ((show S2x1024x512.Idx from x) 0).isLt
    exact ⟨⟨((show S2x1024x512.Idx from x) 0).val, this⟩, Finset.mem_univ _, (outR_set _ _).mpr rfl⟩
  refine Eq.trans ?_ ((pointsTo_biUnion (ℓ := bM.view.loc (c : Thread nD τ)) Finset.univ (bHalf c) (f := f) (q := fullShare) fun i _ i' _ hi => ?_).trans (bigSep_univ_two _))
  · rw [h]
  · exact Finset.disjoint_left.mpr fun x hx hx' => hi (Fin.ext (((outR_set _ _).mp hx).symm.trans ((outR_set _ _).mp hx')))
theorem o_halves (c : Dev nD) (f : (Memref.whole main_v2 : Memref sig .tc .hbm _ _).view.ty.Contents (Elt F)) :
    ((Memref.whole main_v2 : Memref sig .tc .hbm _ _).view.loc (c : Thread nD τ) ↦{fullShare} f : sProp 𝕄)
      = iprop(((Memref.whole main_v2 : Memref sig .tc .hbm _ _).view.loc (c : Thread nD τ) ↦[oHalf c 0]{fullShare} f)
        ∗ ((Memref.whole main_v2 : Memref sig .tc .hbm _ _).view.loc (c : Thread nD τ) ↦[oHalf c 1]{fullShare} f)) := by
  have h : Finset.univ.biUnion (oHalf c) = Finset.univ := by
    refine Finset.eq_univ_of_forall fun x => Finset.mem_biUnion.mpr ?_
    have : ((show S1024x1024.Idx from x) 1).val < 1024 := ((show S1024x1024.Idx from x) 1).isLt
    exact ⟨⟨((show S1024x1024.Idx from x) 1).val / 512, by omega⟩, Finset.mem_univ _, (outC_set _ _).mpr rfl⟩
  refine Eq.trans ?_ ((pointsTo_biUnion (ℓ := (Memref.whole main_v2 : Memref sig .tc .hbm _ _).view.loc (c : Thread nD τ)) Finset.univ (oHalf c) (f := f) (q := fullShare) fun i _ i' _ hi => ?_).trans (bigSep_univ_two _))
  · rw [h]
  · exact Finset.disjoint_left.mpr fun x hx hx' => hi (Fin.ext (((outC_set _ _).mp hx).symm.trans ((outC_set _ _).mp hx')))

theorem outDst_owns (c : Dev nD) (i : Fin 2) (f : S1024x1024.Idx → Elt F .f32) :
    (ownsTc c (outDst i) fullShare (fun j => f ((outC i).emb j)) : sProp 𝕄)
      = ((Memref.whole main_v2 : Memref sig .tc .hbm _ _).view.loc (c : Thread nD τ) ↦[oHalf c i]{fullShare} f) := by
  refine (owns_slice_read (c : Thread nD τ) (Memref.whole main_v2) fullShare (outC i) (fun _ => rfl) f).trans ?_
  rw [show ((Memref.whole main_v2 : Memref sig .tc .hbm _ _).view.slice (outC i)).set = oHalf c i from View.set_slice_whole main_v2 (outC i)]
theorem outSrc_set (c : Dev nD) (i : Fin 2) : (outSrc i).view.set = bHalf c i :=
  (View.set_reshape (bM.view.slice (outR i)) _).trans (View.set_slice_whole cc0_scratch3 (outR i))

/-- The result's halves, held, are the result. -/
theorem out_whole (c : Dev nD) :
    iprop(ownsTc c (outDst 0) fullShare (resOf blk 0 c) ∗ ownsTc c (outDst 1) fullShare (resOf blk 1 c))
      ⊢ ((Memref.whole main_v2 : Memref sig .tc .hbm _ _).view.loc (c : Thread nD τ) ↦{fullShare} out blk c : sProp 𝕄) := by
  have e : ∀ i, (ownsTc c (outDst i) fullShare (resOf blk i c) : sProp 𝕄) = ownsTc c (outDst i) fullShare (fun j => out blk c ((outC i).emb j)) :=
    fun i => by simp only [out_emb]
  rw [e 0, e 1, outDst_owns, outDst_owns, ← o_halves]

/-- The buffer's halves, held, are the buffer, at something. -/
theorem b_join (c : Dev nD) (X Y : S1024x512.Idx → Elt F .f32) :
    iprop(ownsTc c (outSrc 0) fullShare X ∗ ownsTc c (outSrc 1) fullShare Y)
      ⊢ (iprop(∃ f, bM.view.loc (c : Thread nD τ) ↦{fullShare} f) : sProp 𝕄) := by
  unfold ownsTc owns
  rw [outSrc_set c 0, outSrc_set c 1]
  iintro ⟨⟨%f, -, H0⟩, ⟨%g, -, H1⟩⟩
  ihave H := (pointsTo_join (ℓ := bM.view.loc (c : Thread nD τ)) (I := bHalf c 0) (J := bHalf c 1) (f := f) (g := g) (q := fullShare)
    (Finset.disjoint_left.mpr fun x hx hx' => by
      have h := ((outR_set 0 x).mp hx).symm.trans ((outR_set 1 x).mp hx')
      exact absurd h (by decide))) $$ [H0 H1]
  · isplitl [H0]
    · iexact H0
    · iexact H1
  have hu : bHalf c 0 ∪ bHalf c 1 = Finset.univ := by
    refine Finset.eq_univ_of_forall fun x => Finset.mem_union.mpr ?_
    have h2 : ((show S2x1024x512.Idx from x) 0).val < 2 := ((show S2x1024x512.Idx from x) 0).isLt
    rcases (show ((show S2x1024x512.Idx from x) 0).val = 0 ∨ ((show S2x1024x512.Idx from x) 0).val = 1 by omega) with h | h
    · exact .inl ((outR_set 0 _).mpr h)
    · exact .inr ((outR_set 1 _).mpr h)
  rw [hu]
  iexists _
  iexact H

/-! ## The operations -/

/-- A rectangle written and read through a reshape of it. -/
theorem squeeze_read {κ : Kind} {sp : Space} {s s' : Shape} {e : EltTy} (v : View sig κ sp s e) (r : Rect s) (h : s'.numel = r.shape.numel)
    (f : v.ty.Contents (Elt F)) (w : r.shape.Idx → Elt F e) :
    ((v.slice r).reshape s' h).read (Elt F) ((v.slice r).write (Elt F) f w Finset.univ) = fun y => w (Shape.reshapeEquiv h y) :=
  funext fun y => congrFun (View.read_write_univ (v := v.slice r) f w) (Shape.reshapeEquiv h y)
/-- What is written to half `i` of the buffer is read there as a matrix. -/
theorem read_put (i : Fin 2) (v : FVec F S1x1024x512 .f32) (f : bM.view.ty.Contents (Elt F)) :
    (outSrc i).view.read (Elt F) ((bM.access (outR i)).write (Elt F) f v Finset.univ)
      = fun y => v (Shape.reshapeEquiv squeezes_S1x1024x512_S1024x512.numel_eq y) :=
  squeeze_read bM.view (outR i) squeezes_S1x1024x512_S1024x512.numel_eq f v
theorem put_owns (c : Dev nD) (i : Fin 2) (v : FVec F S1x1024x512 .f32) (f : bM.view.ty.Contents (Elt F)) :
    (bM.view.loc (c : Thread nD τ) ↦[bHalf c i]{fullShare} (bM.access (outR i)).write (Elt F) f v Finset.univ)
      ⊢ (ownsTc c (outSrc i) fullShare (fun y => v (Shape.reshapeEquiv squeezes_S1x1024x512_S1024x512.numel_eq y)) : sProp 𝕄) :=
  BIBase.Entails.trans (BIBase.Entails.trans
      (Entails.of_eq (congrArg (fun S => (bM.view.loc (c : Thread nD τ) ↦[S]{fullShare} (bM.access (outR i)).write (Elt F) f v Finset.univ)) (outSrc_set c i).symm))
      (owns_intro (c : Thread nD τ) (outSrc i) fullShare ((bM.access (outR i)).write (Elt F) f v Finset.univ)))
    (Entails.of_eq (congrArg (fun X => ownsTc c (outSrc i) fullShare X) (read_put i v f)))

/-- A load whose value is not used and a store over the same rectangle, the rectangle held. -/
theorem put {α : Type} {s : Shape} (c : Dev nD) (m : Memref sig .tc .vmem s .f32) (r : Rect s) (w : r.shape.Idx → Elt F .f32)
    (S : Finset (Idx (m.view.loc (c : Thread nD τ)))) (f : m.view.ty.Contents (Elt F)) (hS : (m.access r).set ⊆ S)
    (l : m.view.LoadsAt r.toLoadRect) (hx : (m.access r).Stores Finset.univ) (hm : (Finset.univ : Finset r.shape.Idx) = Finset.univ ∨ ∀ a, r.stride a = 1)
    (k : PUnit → Body F α) (Q : α → sProp 𝕄) :
    (m.view.loc (c : Thread nD τ) ↦[S]{fullShare} f)
      ⊢ iprop(((m.view.loc (c : Thread nD τ) ↦[S]{fullShare} (m.access r).write (Elt F) f w Finset.univ)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.load m r.toLoadRect l) fun _ => .op (.store m r w Finset.univ hx hm) k) Q) := by
  iintro H Hk
  iapply (wp_load_rect 𝒱₀ (c : Thread nD τ) none Set.univ (m := m) (r := r) hS) $$ H
  iintro H
  iapply (wp_store 𝒱₀ (c : Thread nD τ) none Set.univ (m := m) (r := r) (w := w) (Mk := Finset.univ) hS) $$ H
  iintro H
  iapply Hk
  iexact H

theorem run_put (c : Dev nD) (i : Fin 2) (v : FVec F S1x1024x512 .f32) (f : bM.view.ty.Contents (Elt F)) (Q : PUnit → sProp 𝕄) :
    (bM.view.loc (c : Thread nD τ) ↦[bHalf c i]{fullShare} f)
      ⊢ iprop((ownsTc c (outSrc i) fullShare (fun y => v (Shape.reshapeEquiv squeezes_S1x1024x512_S1024x512.numel_eq y)) -∗ Q ⟨⟩)
        -∗ wp frame (wpE (defs₀ (F := F)) 𝒱₀ (c : Thread nD τ) none) Set.univ (putOut (F := F) i v) Q) := by
  have H := put (F := F) c bM (outR i) v (bHalf c i) f (View.set_slice_whole cc0_scratch3 (outR i)).subset
    (View.loadsAt_vmem h_S1x1024x512) (View.stores_vmem_bits_univ h_S1x1024x512 rfl) (.inl rfl) (fun _ => .ret ⟨⟩) Q
  rw [wp_ret] at H
  refine BIBase.Entails.trans H (wand_mono_left ?_)
  refine BIBase.Entails.trans (wand_mono_left (put_owns c i v f)) (wand_mono_right ?_)
  iintro H
  imodintro
  iexact H

theorem run_copy (res : Results F) (c : Dev nD) (i : Fin 2) (Q : PUnit → sProp 𝕄) :
    iprop(recs blk res K ∗ ownsTc c (outSrc i) fullShare (res i c) ∗ (∃ Y, ownsTc c (outDst i) fullShare Y)
        ∗ dutyTok ER (oCell c i) 0 0 ∗ reached ER (oCell c i) 0)
      ⊢ iprop((cred (tallyAt (oCell c i) () No) -∗ Q ⟨⟩)
        -∗ wp frame (wpE (defs₀ (F := F)) 𝒱₀ (c : Thread nD τ) none) Set.univ (copyOut (F := F) i) Q) := by
  unfold copyOut Prog.lift ownsTc owns
  iintro ⟨#Hrec, ⟨%fs, %hfs, Hs⟩, ⟨%Y, %fd, -, Hd⟩, Ht, #Hr⟩ Hk
  iapply (Rounds.wp_copy_pointsTo 𝒱₀ ER (rd blk res) (c : Thread nD τ) none (src := outSrc i) (dst := outDst i) (sem := .dma (osem i)) (q := fullShare)
      (fs := fs) (fd := fd) (r := 0) (d := 0) (κ := K (oCell c i)) (by rw [duties_o]; exact Finset.mem_singleton_self _) () No (No_eq i)
      (amount_o blk res c i 0)
      (by
        rw [payload_o]
        unfold outPay
        rw [← hfs]
        refine BIClass.sep_mono ((owns_intro _ _ _ _).trans (Entails.of_eq ?_)) (owns_intro _ _ _ _)
        rw [View.read_write_univ])) $$ [Hs Hd Ht]
  · isplitr; · iapply (recs_cell blk res K (o_mem c i)); iexact Hrec
    isplitl [Hs]; · iexact Hs
    isplitl [Hd]; · iexact Hd
    isplitl [Ht]; · iexact Ht
    iexact Hr
  iintro H
  rw [wp_ret]
  imodintro
  iapply Hk
  iexact H

theorem run_waitOut (res : Results F) (c : Dev nD) (i : Fin 2) (Q : PUnit → sProp 𝕄) :
    iprop(recs blk res K ∗ cred (tallyAt (oCell c i) () No) ∗ (∃ W, owes (c : Thread nD τ) 0 W) ∗ atPos ER (oCell c i) 0 ∅ 0)
      ⊢ iprop(((∃ W, owes (c : Thread nD τ) 0 W) ∗ semVal (oCell c i) 0 ∗ outPay res c i -∗ Q ⟨⟩)
        -∗ wp frame (wpE (defs₀ (F := F)) 𝒱₀ (c : Thread nD τ) none) Set.univ (waitOut (F := F) i) Q) := by
  unfold waitOut Prog.lift
  iintro ⟨#Hrec, HcO, ⟨%W, HO⟩, Hat⟩ Hk
  iapply (Rounds.wp_wait_rest_token 𝒱₀ ER (rd blk res) (c : Thread nD τ) none (κ := K (oCell c i))
      (wpE_waitDma2_eq (src := outSrc i) (dst := outDst i) (hsrc := (View.wordExact_bits rfl).reshape _ _) (hdst := View.wordExact_bits rfl) 𝒱₀ (c : Thread nD τ) none Set.univ) (Set.mem_univ _) () (O := 0) (W := W) (R := 0) (m := 0) (T := ∅)
      ((Nat.zero_add _).trans ((No_eq i).trans (expect_o blk res c i).symm))) $$ [HcO HO Hat]
  · isplitr; · iapply (recs_cell blk res K (o_mem c i)); iexact Hrec
    isplitl [HcO]; · rw [No_eq]; iexact HcO
    isplitl [HO]; · iexact HO
    isplitr; · rw [MayWait_zero]; iempintro
    iexact Hat
  iintro ⟨HO, Hat, -, Hpay⟩
  ihave Hp := (Entails.of_eq (rest_o blk res c i)) $$ Hpay
  rw [wp_ret]
  imod (close blk res (K (oCell c i)) (oCell c i)) $$ [Hat] with Hv
  · isplitr; · iapply (recs_cell blk res K (o_mem c i)); iexact Hrec
    iexact Hat
  imodintro
  iapply Hk
  isplitl [HO]; · iexists _; iexact HO
  isplitl [Hv] <;> iassumption

/-! ## All of it -/

/-- What a device holds for the copies out: the buffer, the result's array, and for each copy its semaphore's tokens; -/
def outPre (c : Dev nD) : sProp 𝕄 :=
  iprop((∃ f, bM.view.loc (c : Thread nD τ) ↦{fullShare} f) ∗ (∃ f, (Memref.whole main_v2 : Memref sig .tc .hbm _ _).view.loc (c : Thread nD τ) ↦{fullShare} f)
    ∗ bigSep Finset.univ fun i : Fin 2 => iprop(dutyTok ER (oCell c i) 0 0 ∗ atPos ER (oCell c i) 0 ∅ 0 ∗ reached ER (oCell c i) 0))
/-- and afterwards: the result, the buffer, the semaphores back. -/
def outPost (c : Dev nD) : sProp 𝕄 :=
  iprop((∃ f, bM.view.loc (c : Thread nD τ) ↦{fullShare} f) ∗ ((Memref.whole main_v2 : Memref sig .tc .hbm _ _).view.loc (c : Thread nD τ) ↦{fullShare} out blk c)
    ∗ bigSep Finset.univ fun i : Fin 2 => semVal (oCell c i) 0)

theorem run_outs (c : Dev nD) (Q : PUnit → sProp 𝕄) :
    iprop(recs blk (resOf blk) K ∗ outPre c ∗ (∃ W, owes (c : Thread nD τ) 0 W))
      ⊢ iprop((outPost blk c ∗ (∃ W, owes (c : Thread nD τ) 0 W) -∗ Q ⟨⟩)
        -∗ wp frame (wpE (defs₀ (F := F)) 𝒱₀ (c : Thread nD τ) none) Set.univ
          (do putOut 0 (outPair blk c 0); copyOut 0; putOut 1 (outPair blk c 1); copyOut 1; waitOut 0; waitOut 1) Q) := by
  have hb : iprop(ownsTc c (outSrc 0) fullShare (resOf blk 0 c) ∗ ownsTc c (outSrc 1) fullShare (resOf blk 1 c))
      ⊢ (iprop(∃ f, bM.view.loc (c : Thread nD τ) ↦{fullShare} f) : sProp 𝕄) := b_join c _ _
  unfold outPre outPost
  rw [bigSep_univ_two, bigSep_univ_two]
  simp only [Idealize.SL.Sem.wp_bind]
  iintro ⟨#Hrec, ⟨⟨%fb, Hb⟩, ⟨%fo, Ho⟩, ⟨Ht0, Hat0, #Hr0⟩, ⟨Ht1, Hat1, #Hr1⟩⟩, HO⟩ Hk
  ihave Hb' := (Entails.of_eq (b_halves c fb)) $$ Hb
  icases Hb' with ⟨Hb0, Hb1⟩
  ihave Ho' := (Entails.of_eq (o_halves c fo)) $$ Ho
  icases Ho' with ⟨Ho0, Ho1⟩
  ihave Ho0 := (Entails.of_eq (outDst_owns c 0 fo).symm) $$ Ho0
  ihave Ho1 := (Entails.of_eq (outDst_owns c 1 fo).symm) $$ Ho1
  iapply (run_put (F := F) c 0 (outPair blk c 0) fb) $$ Hb0
  iintro Hb0
  iapply (run_copy blk K (resOf blk) c 0) $$ [Hb0 Ho0 Ht0]
  · isplitr; · iexact Hrec
    isplitl [Hb0]; · iexact Hb0
    isplitl [Ho0]; · iexists _; iexact Ho0
    isplitl [Ht0]; · iexact Ht0
    iexact Hr0
  iintro Hc0
  iapply (run_put (F := F) c 1 (outPair blk c 1) fb) $$ Hb1
  iintro Hb1
  iapply (run_copy blk K (resOf blk) c 1) $$ [Hb1 Ho1 Ht1]
  · isplitr; · iexact Hrec
    isplitl [Hb1]; · iexact Hb1
    isplitl [Ho1]; · iexists _; iexact Ho1
    isplitl [Ht1]; · iexact Ht1
    iexact Hr1
  iintro Hc1
  iapply (run_waitOut blk K (resOf blk) c 0) $$ [Hc0 HO Hat0]
  · isplitr; · iexact Hrec
    isplitl [Hc0]; · iexact Hc0
    isplitl [HO] <;> iassumption
  iintro ⟨HO, Hv0, Hp0⟩
  iapply (run_waitOut blk K (resOf blk) c 1) $$ [Hc1 HO Hat1]
  · isplitr; · iexact Hrec
    isplitl [Hc1]; · iexact Hc1
    isplitl [HO] <;> iassumption
  iintro ⟨HO, Hv1, Hp1⟩
  unfold outPay
  icases Hp0 with ⟨Hd0, Hs0⟩
  icases Hp1 with ⟨Hd1, Hs1⟩
  iapply Hk
  isplitr [HO]
  · isplitl [Hs0 Hs1]
    · iapply hb; isplitl [Hs0] <;> iassumption
    isplitl [Hd0 Hd1]
    · iapply (out_whole blk c); isplitl [Hd0] <;> iassumption
    isplitl [Hv0] <;> iassumption
  iexact HO

theorem run_finish (c : Dev nD) (n : ℕ) (hn : 136 ≤ n) (Q : PUnit → sProp 𝕄) :
    iprop(recs blk (resOf blk) K ∗ holds blk c n ∗ outPre c)
      ⊢ iprop((holds blk c n ∗ outPost blk c -∗ Q ⟨⟩)
        -∗ wp frame (wpE (defs₀ (F := F)) 𝒱₀ (c : Thread nD τ) none) Set.univ (finish (F := F) (acc7 blk c)) Q) := by
  iintro ⟨#Hrec, H, Ho⟩ Hk
  iapply (run_loads blk c n 7 (by omega) lastRows (lastCols 0) (lastCols 1) lastRows_in (lastCols_in 0) (lastCols_in 1)
    (View.loadsAt_vmem h_S64x1024) (View.loadsAt_vmem h_S64x1024) (View.loadsAt_vmem h_S64x512) (View.loadsAt_vmem h_S64x512)
    (fun x0 w0 x1 w1 => do putOut 0 (k0_pay18 (acc7 blk c).1 x0 w0); copyOut 0; putOut 1 (k0_pay19 (acc7 blk c).2 x1 w1); copyOut 1; waitOut 0; waitOut 1) Q) $$ H
  iintro H
  unfold holds
  rw [owed_done c n hn]
  icases H with ⟨HO, HS, HR, HV⟩
  iapply (run_outs blk K c) $$ [Ho HO]
  · isplitr; · iexact Hrec
    isplitl [Ho] <;> iassumption
  iintro ⟨Ho, HO⟩
  iapply Hk
  isplitr [Ho]
  · isplitl [HO]; · iexact HO
    isplitl [HS]; · iexact HS
    isplitl [HR] <;> iassumption
  iexact Ho

end Cert.KernelIdeal.Around
-- ==== Proof.KernelIdeal.Sides.lean ====
/-
What a device holds at the clock's beginning and end, put together from whole buffers and taken apart again.

At the beginning the chunks' sources are halves of the device's own blocks and its landing tiles are all of its gather
buffers. At the end every tile has come in and every source is back, and the buffers are whole again.
-/
module

public import proofs.«01_k».proof.Proof.KernelIdeal.Finish

@[expose] public section

set_option maxRecDepth 100000

noncomputable section

namespace Cert.KernelIdeal.Around

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (blk : Blocks F) (res : Results F)

/-! ## A gather buffer is its tiles -/

theorem rows_univ (s : Fin 2) (c : Dev nD) : rows s c Finset.univ = Finset.univ := by
  refine Finset.eq_univ_iff_forall.mpr fun i => ?_
  have key : ∀ y : S960x1024.Idx, y ∈ (gR (rowTile y)).set := fun y => Rect.mem_set_unit.mpr fun a => by
    match a with
    | 0 =>
      have h0 : 32 * ((y 0).val / 32) ≤ (y 0).val ∧ (y 0).val < 32 * ((y 0).val / 32) + 32 := ⟨by omega, by omega⟩
      exact h0
    | 1 => exact ⟨Nat.zero_le _, by have : (y 1).val < 1024 := (y 1).isLt; simpa using this⟩
  match s with
  | 0 =>
    refine Finset.mem_biUnion.mpr ⟨rowTile i, Finset.mem_univ _, ?_⟩
    change i ∈ ((View.whole cc0_scratch0).slice (gR (rowTile i))).set
    rw [View.set_slice_whole]; exact key i
  | 1 =>
    refine Finset.mem_biUnion.mpr ⟨rowTile i, Finset.mem_univ _, ?_⟩
    change i ∈ ((View.whole cc0_scratch1).slice (gR (rowTile i))).set
    rw [View.set_slice_whole]; exact key i

theorem hex (c : Dev nD) (x : X) (Y : Chunk F) : (ownsTc c (dstV x) fullShare Y : sProp 𝕄) ⊢ iprop(∃ Y, ownsTc c (dstV x) fullShare Y) := by
  iintro H; iexists Y; iexact H

/-- Whatever a gather buffer holds, its tiles are held one by one. -/
theorem tiles_of (s : Fin 2) (c : Dev nD) :
    (iprop(∃ f, (gM s).view.loc (c : Thread nD τ) ↦{fullShare} f) : sProp 𝕄)
      ⊢ bigSep Finset.univ fun ρ : Fin 30 => iprop(∃ Y, ownsTc c (dstV (s, ρ)) fullShare Y) := by
  iintro ⟨%f, H⟩
  have e : ((gM s).view.loc (c : Thread nD τ) ↦[Finset.univ]{fullShare} f : sProp 𝕄)
      = bigSep Finset.univ fun ρ : Fin 30 => ownsTc c (dstV (s, ρ)) fullShare (fun j => (gM s).view.read (Elt F) f ((gR ρ).emb j)) := by
    rw [← rows_univ s c]
    refine Eq.trans (pointsTo_biUnion (ℓ := (gM s).view.loc (c : Thread nD τ)) Finset.univ (fun ρ => ((gM s).view.slice (gR ρ)).set) (fun ρ _ ρ' _ h => tiles_disjoint s h))
      (bigSep_congr fun ρ _ => ?_)
    exact (owns_slice_read (c : Thread nD τ) (gM s) fullShare (gR ρ) (fun _ => rfl) f).symm
  ihave H' := (Entails.of_eq e) $$ H
  iapply (show (bigSep Finset.univ fun ρ : Fin 30 => ownsTc c (dstV (s, ρ)) fullShare (fun j => (gM s).view.read (Elt F) f ((gR ρ).emb j)) : sProp 𝕄)
      ⊢ bigSep Finset.univ fun ρ : Fin 30 => iprop(∃ Y, ownsTc c (dstV (s, ρ)) fullShare Y) from
    bigSep_mono fun ρ _ => hex c _ _) $$ H'

/-! ## A block is its halves -/

theorem oR_cover : (oR 0).set ∪ (oR 1).set = Finset.univ := by
  refine Finset.eq_univ_iff_forall.mpr fun y => ?_
  have h0 : (y 0).val < 64 := (y 0).isLt
  have h1 : (y 1).val < 1024 := (y 1).isLt
  rw [Finset.mem_union]
  rcases Nat.lt_or_ge (y 0).val 32 with h | h
  · refine .inl (Rect.mem_set_unit.mpr fun a => ?_)
    match a with
    | 0 => exact ⟨Nat.zero_le _, by simpa using h⟩
    | 1 => exact ⟨Nat.zero_le _, by simpa using h1⟩
  · refine .inr (Rect.mem_set_unit.mpr fun a => ?_)
    match a with
    | 0 => exact ⟨by simpa using h, by simpa using h0⟩
    | 1 => exact ⟨Nat.zero_le _, by simpa using h1⟩
theorem oR_apart : Disjoint (oR 0).set (oR 1).set := by
  rw [Finset.disjoint_left]
  intro y hy hy'
  have a : (y 0).val < 32 := by have := ((Rect.mem_set_unit.mp hy) 0).2; simpa using this
  have b : 32 ≤ (y 0).val := by have := ((Rect.mem_set_unit.mp hy') 0).1; simpa using this
  omega

/-- Half `q` of block `s` under a share. -/
def rowHalf (s : Fin 2) (c : Dev nD) (p : PosShare TreeShare) (q : Fin 2) : sProp 𝕄 :=
  ownsTc c ((oM s).slice (oR q) (fun _ => rfl)) p (fun j => blk s c ((oR q).emb j))

theorem own_rows (s : Fin 2) (c : Dev nD) (p : PosShare TreeShare) :
    (ownsTc c (oM s) p (blk s c) : sProp 𝕄) = iprop(rowHalf blk s c p 0 ∗ rowHalf blk s c p 1) := by
  have key : ∀ q : Fin 2, (rowHalf blk s c p q : sProp 𝕄) = ((oM s).view.loc (c : Thread nD τ) ↦[((oM s).view.slice (oR q)).set]{p} oBuf blk s c) := by
    intro q
    rw [← owns_slice_read (c : Thread nD τ) (oM s) p (oR q) (fun _ => rfl) (oBuf blk s c)]
    unfold rowHalf
    match s with
    | 0 => rfl
    | 1 => rfl
  have hs : ∀ q : Fin 2, Finset.map (oM s).view.emb (oR q).set = ((oM s).view.slice (oR q)).set := fun q => (View.set_slice ..).symm
  rw [owns_oM, key, key, ← bigSep_univ_two (Φ := fun q : Fin 2 => ((oM s).view.loc (c : Thread nD τ) ↦[((oM s).view.slice (oR q)).set]{p} oBuf blk s c : sProp 𝕄))]
  have hu : (Finset.univ : Finset (Idx ((oM s).view.loc (c : Thread nD τ)))) = (Finset.univ : Finset (Fin 2)).biUnion fun q => ((oM s).view.slice (oR q)).set := by
    refine (Finset.eq_univ_iff_forall.mpr fun i => ?_).symm
    have key' : ∀ y : S64x1024.Idx, ∃ q : Fin 2, y ∈ (oR q).set := fun y => by
      have h := Finset.mem_univ y
      rw [← oR_cover, Finset.mem_union] at h
      exact h.elim (fun h => ⟨0, h⟩) (fun h => ⟨1, h⟩)
    match s with
    | 0 =>
      obtain ⟨q, hq⟩ := key' i
      refine Finset.mem_biUnion.mpr ⟨q, Finset.mem_univ _, ?_⟩
      change i ∈ ((View.whole cc0_stg1_0).slice (oR q)).set
      rw [View.set_slice_whole]; exact hq
    | 1 =>
      obtain ⟨q, hq⟩ := key' i
      refine Finset.mem_biUnion.mpr ⟨q, Finset.mem_univ _, ?_⟩
      change i ∈ ((View.whole cc0_scratch2).slice (oR q)).set
      rw [View.set_slice_whole]; exact hq
  rw [hu]
  refine pointsTo_biUnion (ℓ := (oM s).view.loc (c : Thread nD τ)) Finset.univ (fun q => ((oM s).view.slice (oR q)).set) (fun q _ q' _ h => ?_)
  rw [View.set_slice, View.set_slice, Finset.disjoint_map]
  match q, q' with
  | 0, 0 => exact absurd rfl h
  | 0, 1 => exact oR_apart
  | 1, 0 => exact oR_apart.symm
  | 1, 1 => exact absurd rfl h

/-- The source of a chunk of a device's own. -/
theorem src_first (c : Dev nD) (x : X) (h : ¬ later x) :
    (ownsTc c (srcV x) (sh x) (sent blk x c) : sProp 𝕄) = rowHalf blk x.1 c (sh x) (half x) := by
  unfold rowHalf
  rw [srcV_first x h, sent_first blk x h]
  rfl

theorem src_own (s : Fin 2) (c : Dev nD) (ρ : Fin 30) (p : PosShare TreeShare) (q : Fin 2) (h : ¬ later (s, ρ)) (hp : sh (s, ρ) = p) (hq : half (s, ρ) = q) :
    (ownsTc c (srcV (s, ρ)) (sh (s, ρ)) (sent blk (s, ρ) c) : sProp 𝕄) = rowHalf blk s c p q := by
  rw [src_first blk c (s, ρ) h, hp, hq]
/-- The share of each. -/
theorem sh_own (s : Fin 2) (ρ : Fin 30) (h : ρ.val < 4) : sh (s, ρ) = match (⟨ρ.val / 2 % 2, Nat.mod_lt _ (by decide)⟩ : Fin 2) with | 0 => hR.left | 1 => hR.right :=
  if_neg (show ¬ 4 ≤ ρ.val by omega)

/-- What a device's own block gives for sending is the sources of its four chunks. -/
theorem own_sources (s : Fin 2) (c : Dev nD) :
    (ownsTc c (oM s) hR (blk s c) : sProp 𝕄)
      = bigSep (Finset.univ.filter fun ρ : Fin 30 => ¬ later (s, ρ)) fun ρ => ownsTc c (srcV (s, ρ)) (sh (s, ρ)) (sent blk (s, ρ) c) := by
  refine Eq.trans (Idealize.SL.BI.Entails.antisymm (owns_halves (c : Thread nD τ) (oM s) hR (blk s c)).1 (owns_halves (c : Thread nD τ) (oM s) hR (blk s c)).2) ?_
  change (iprop(ownsTc c (oM s) hR.left (blk s c) ∗ ownsTc c (oM s) hR.right (blk s c)) : sProp 𝕄) = _
  rw [own_rows, own_rows,
    show (Finset.univ.filter fun ρ : Fin 30 => ¬ later (s, ρ)) = {0, 1, 2, 3} from by revert s; decide +kernel,
    bigSep_insert (by decide), bigSep_insert (by decide), bigSep_insert (by decide), bigSep_singleton,
    src_own blk s c 0 hR.left 0 (by revert s; decide +kernel) (sh_own s 0 (by decide)) (by revert s; decide +kernel),
    src_own blk s c 1 hR.left 1 (by revert s; decide +kernel) (sh_own s 1 (by decide)) (by revert s; decide +kernel),
    src_own blk s c 2 hR.right 0 (by revert s; decide +kernel) (sh_own s 2 (by decide)) (by revert s; decide +kernel),
    src_own blk s c 3 hR.right 1 (by revert s; decide +kernel) (sh_own s 3 (by decide)) (by revert s; decide +kernel)]
  generalize rowHalf blk s c hR.left 0 = A, rowHalf blk s c hR.left 1 = B, rowHalf blk s c hR.right 0 = C, rowHalf blk s c hR.right 1 = D
  have e₁ : ∀ A B C D : sProp 𝕄, (iprop((A ∗ B) ∗ C ∗ D) : sProp 𝕄) ⊢ iprop(A ∗ B ∗ C ∗ D) := fun A B C D => by
    iintro ⟨⟨A, B⟩, C, D⟩
    isplitl [A]; · iexact A
    isplitl [B]; · iexact B
    isplitl [C] <;> iassumption
  have e₂ : ∀ A B C D : sProp 𝕄, (iprop(A ∗ B ∗ C ∗ D) : sProp 𝕄) ⊢ iprop((A ∗ B) ∗ C ∗ D) := fun A B C D => by
    iintro ⟨A, B, C, D⟩
    isplitl [A B]
    · isplitl [A] <;> iassumption
    isplitl [C] <;> iassumption
  exact Idealize.SL.BI.Entails.antisymm (e₁ A B C D) (e₂ A B C D)

/-! ## The beginning -/

/-- A device's own blocks, whole. -/
def ownFull (c : Dev nD) : sProp 𝕄 := iprop(ownsTc c (oM 0) fullShare (blk 0 c) ∗ ownsTc c (oM 1) fullShare (blk 1 c))

theorem src_at_start (c : Dev nD) (x : X) : (srcSide blk c 0 x : sProp 𝕄) = if later x then iprop(emp) else ownsTc c (srcV x) (sh x) (sent blk x c) := by
  unfold srcSide
  by_cases h : later x
  · rw [if_neg (fun k => absurd (k.1 h) (Nat.not_lt_zero _)), if_pos h]
  · rw [if_pos ⟨fun k => absurd k h, .inl (Nat.zero_le _)⟩, if_neg h]

theorem sources_at_start (s : Fin 2) (c : Dev nD) :
    (ownsTc c (oM s) hR (blk s c) : sProp 𝕄) = bigSep Finset.univ fun ρ : Fin 30 => srcSide blk c 0 (s, ρ) := by
  rw [own_sources, bigSep_filter]
  refine bigSep_congr fun ρ _ => ?_
  rw [src_at_start]
  by_cases h : later (s, ρ)
  · rw [if_pos h, if_neg (not_not.mpr h)]; rfl
  · rw [if_neg h, if_pos h]

/-- A device's own blocks give the reading shares and the sources. -/
theorem own_open (c : Dev nD) : (ownFull blk c : sProp 𝕄) ⊢ iprop(ownHeld blk c ∗ bigSep Finset.univ (srcSide blk c 0)) := by
  rw [bigSep_univ_prod (fun x : X => srcSide blk c 0 x), bigSep_univ_two, ← sources_at_start, ← sources_at_start]
  unfold ownFull ownHeld
  iintro ⟨A, B⟩
  ihave A' := (owns_halves (c : Thread nD τ) (oM 0) fullShare (blk 0 c)).1 $$ A
  ihave B' := (owns_halves (c : Thread nD τ) (oM 1) fullShare (blk 1 c)).1 $$ B
  icases A' with ⟨A1, A2⟩
  icases B' with ⟨B1, B2⟩
  isplitl [A1 B1]
  · isplitl [A1]; · iexact A1
    iexact B1
  isplitl [A2]; · iexact A2
  iexact B2

theorem snd_at_start (c : Dev nD) (x : X) : (sndSide c 0 x : sProp 𝕄) = sndPre c x := if_pos (Nat.zero_le _)
theorem rcv_at_start (c : Dev nD) (x : X) : (rcvSide blk c 0 x : sProp 𝕄) = rcvPre c x := if_pos (Nat.zero_le _)

/-! ## The end -/

/-- Past a number of tiles, round and round. -/
def rot : Fin 30 ↪ Fin 30 := ⟨fun ρ => ⟨(ρ.val + 4) % 30, Nat.mod_lt _ (by decide)⟩, fun a b h => by
  have := congrArg Fin.val h
  dsimp only at this
  exact Fin.ext (by omega)⟩
theorem rot_fwd (s : Fin 2) (ρ : Fin 30) (h : fwd (s, ρ)) : (s, rot ρ) = next (s, ρ) h := by
  unfold fwd at h; dsimp only at h
  exact Prod.ext rfl (Fin.ext (show (ρ.val + 4) % 30 = ρ.val + 4 by omega))

/-- The sources passed on are the tiles that were to be passed on. -/
theorem sources_later (s : Fin 2) (c : Dev nD) :
    (bigSep (Finset.univ.filter fun ρ : Fin 30 => later (s, ρ)) fun ρ => ownsTc c (srcV (s, ρ)) (sh (s, ρ)) (sent blk (s, ρ) c) : sProp 𝕄)
      = bigSep (Finset.univ.filter fun ρ : Fin 30 => fwd (s, ρ)) fun ρ => ownsTc c (dstV (s, ρ)) hR (landed blk (s, ρ) c) := by
  rw [show (Finset.univ.filter fun ρ : Fin 30 => later (s, ρ)) = (Finset.univ.filter fun ρ : Fin 30 => fwd (s, ρ)).map rot from by revert s; decide +kernel,
    bigSep_map]
  refine bigSep_congr fun ρ hρ => ?_
  have hf : fwd (s, ρ) := (Finset.mem_filter.mp hρ).2
  rw [rot_fwd s ρ hf, srcV_later _ (later_next _ hf), prev_next, sent_next, show sh (next (s, ρ) hf) = hR from if_pos (later_next _ hf)]

theorem snd_at_end (c : Dev nD) (x : X) : (sndSide c 200 x : sProp 𝕄) = semVal (sCell c x) 0 := by
  have h1 := tS_lt x
  have h2 := tW_lt x
  exact (if_neg (by omega)).trans (if_neg (by omega))
theorem rcv_at_end (c : Dev nD) (x : X) : (rcvSide blk c 200 x : sProp 𝕄) = rcvPost blk c x :=
  if_neg (by have := tR_lt x; omega)
theorem src_at_end (c : Dev nD) (x : X) : (srcSide blk c 200 x : sProp 𝕄) = ownsTc c (srcV x) (sh x) (sent blk x c) :=
  if_pos ⟨fun _ => by have := tR_lt (prev x); omega, .inr (tW_lt x)⟩

/-- Everything of stream `s` at the end: the semaphores, the gather buffer and the device's own block. -/
theorem stream_end (s : Fin 2) (c : Dev nD) :
    (iprop((bigSep Finset.univ fun ρ : Fin 30 => rcvSide blk c 200 (s, ρ)) ∗ (bigSep Finset.univ fun ρ : Fin 30 => srcSide blk c 200 (s, ρ))
        ∗ ownsTc c (oM s) hL (blk s c)) : sProp 𝕄)
      ⊢ iprop((bigSep Finset.univ fun ρ : Fin 30 => semVal (rCell c (s, ρ)) 0)
        ∗ ((gM s).view.loc (c : Thread nD τ) ↦{fullShare} gBuf blk s c) ∗ ownsTc c (oM s) fullShare (blk s c)) := by
  have e₁ : (bigSep Finset.univ fun ρ : Fin 30 => rcvSide blk c 200 (s, ρ) : sProp 𝕄)
      = iprop((bigSep Finset.univ fun ρ : Fin 30 => semVal (rCell c (s, ρ)) 0)
        ∗ ((gM s).view.loc (c : Thread nD τ) ↦[Finset.univ]{hL} gBuf blk s c)
        ∗ bigSep (Finset.univ.filter fun ρ : Fin 30 => ¬ fwd (s, ρ)) fun ρ => ownsTc c (dstV (s, ρ)) hR (landed blk (s, ρ) c)) := by
    rw [← rows_univ s c, ← gather, bigSep_filter, ← bigSep_sep', ← bigSep_sep']
    refine bigSep_congr fun ρ _ => ?_
    rw [rcv_at_end]
    unfold rcvPost
    by_cases h : fwd (s, ρ)
    · rw [if_pos h, if_neg (not_not.mpr h)]; rfl
    · rw [if_neg h, if_pos h]
  have e₂ : (bigSep Finset.univ fun ρ : Fin 30 => srcSide blk c 200 (s, ρ) : sProp 𝕄)
      = iprop((bigSep (Finset.univ.filter fun ρ : Fin 30 => fwd (s, ρ)) fun ρ => ownsTc c (dstV (s, ρ)) hR (landed blk (s, ρ) c))
        ∗ ownsTc c (oM s) hR (blk s c)) := by
    rw [bigSep_congr (fun ρ _ => src_at_end blk c (s, ρ)), bigSep_filter_split Finset.univ (fun ρ : Fin 30 => later (s, ρ)), sources_later, own_sources]
    rfl
  have e₃ : (iprop((bigSep (Finset.univ.filter fun ρ : Fin 30 => fwd (s, ρ)) fun ρ => ownsTc c (dstV (s, ρ)) hR (landed blk (s, ρ) c))
        ∗ bigSep (Finset.univ.filter fun ρ : Fin 30 => ¬ fwd (s, ρ)) fun ρ => ownsTc c (dstV (s, ρ)) hR (landed blk (s, ρ) c)) : sProp 𝕄)
      = ((gM s).view.loc (c : Thread nD τ) ↦[Finset.univ]{hR} gBuf blk s c) := by
    refine Eq.trans (bigSep_filter_split Finset.univ (fun ρ : Fin 30 => fwd (s, ρ)) (Φ := fun ρ => (ownsTc c (dstV (s, ρ)) hR (landed blk (s, ρ) c) : sProp 𝕄))).symm ?_
    rw [gather, rows_univ]
  rw [e₁, e₂]
  iintro ⟨⟨Hs, Hl, Hn⟩, ⟨Hf, Ho⟩, Hh⟩
  isplitl [Hs]; · iexact Hs
  isplitl [Hl Hn Hf]
  · ihave H := (Entails.of_eq e₃) $$ [Hf Hn]
    · isplitl [Hf]; · iexact Hf
      iexact Hn
    iapply (pointsTo_share (PosShare.mem_left_op_right fullShare)).2
    isplitl [Hl]; · iexact Hl
    iexact H
  iapply (owns_halves (c : Thread nD τ) (oM s) fullShare (blk s c)).2
  isplitl [Hh]; · iexact Hh
  iexact Ho

/-- Everything at the end. -/
theorem holds_end (c : Dev nD) :
    (iprop(holds blk c 200 ∗ ownHeld blk c) : sProp 𝕄)
      ⊢ iprop((∃ W, owes (c : Thread nD τ) 0 W) ∗ (bigSep Finset.univ fun x : X => semVal (sCell c x) 0)
        ∗ (bigSep Finset.univ fun x : X => semVal (rCell c x) 0)
        ∗ ((gM 0).view.loc (c : Thread nD τ) ↦{fullShare} gBuf blk 0 c) ∗ ((gM 1).view.loc (c : Thread nD τ) ↦{fullShare} gBuf blk 1 c)
        ∗ ownFull blk c) := by
  unfold holds ownHeld ownFull
  rw [bigSep_congr (fun x _ => snd_at_end c x), owed_done c 200 (by decide),
    bigSep_univ_prod (fun x : X => rcvSide blk c 200 x), bigSep_univ_prod (fun x : X => srcSide blk c 200 x),
    bigSep_univ_prod (fun x : X => semVal (rCell c x) 0), bigSep_univ_two, bigSep_univ_two, bigSep_univ_two]
  iintro ⟨⟨Ho, Hs, ⟨R0, R1⟩, S0, S1⟩, O0, O1⟩
  ihave H0 := (stream_end blk 0 c) $$ [R0 S0 O0]
  · isplitl [R0]; · iexact R0
    isplitl [S0]; · iexact S0
    iexact O0
  ihave H1 := (stream_end blk 1 c) $$ [R1 S1 O1]
  · isplitl [R1]; · iexact R1
    isplitl [S1]; · iexact S1
    iexact O1
  icases H0 with ⟨A0, B0, C0⟩
  icases H1 with ⟨A1, B1, C1⟩
  isplitl [Ho]; · iexact Ho
  isplitl [Hs]; · iexact Hs
  isplitl [A0 A1]
  · isplitl [A0]; · iexact A0
    iexact A1
  isplitl [B0]; · iexact B0
  isplitl [B1]; · iexact B1
  isplitl [C0]; · iexact C0
  iexact C1

end Cert.KernelIdeal.Around
-- ==== Proof.KernelIdeal.Body.lean ====
/-
The body of the kernel on one device, from what the launch hands it to what it hands back.

The first part meets the neighbours: it reads which they are from the table, hands each of them the landing tiles of the
chunks they will send, and waits for theirs. The events and products follow.
-/
module

public import proofs.«01_k».proof.Proof.KernelIdeal.Sides

@[expose] public section

set_option maxRecDepth 100000

noncomputable section

namespace Cert.KernelIdeal.Around

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (blk : Blocks F) (res : Results F) (K : GSem nD τ sig → ℕ)

/-! ## The table of neighbours -/

/-- The table: each device's right and left neighbour. -/
def table : S16x2.Idx → Elt F .i32 := fun i => lit0 (S16x2.rowMajor i)

abbrev tM : Memref sig .tc .smem S16x2 .i32 := Memref.whole cc0_stg0_0
abbrev wM : Memref sig .tc .vmem S64x1024 .bf16 := Memref.whole cc0_stg2_0
abbrev w2M : Memref sig .tc .vmem S64x1024 .bf16 := Memref.whole cc0_scratch2
theorem zeros : (![0, 0] : Fin 2 → ℕ) = fun _ => 0 := by decide

/-- The table's words for device `c`. -/
def wordR (c : Dev nD) : BitVec 32 := lit0 (S16x2.rowMajor ((Rect.unit (s := S16x2) (k0_off1 c) S1x1.size (k0_off1_inb c)).emb (Shape.Idx.first (s := S1x1) (numel1_S1x1.symm ▸ Nat.one_pos))))
def wordL (c : Dev nD) : BitVec 32 := lit0 (S16x2.rowMajor ((Rect.unit (s := S16x2) (k0_off2 c) S1x1.size (k0_off2_inb c)).emb (Shape.Idx.first (s := S1x1) (numel1_S1x1.symm ▸ Nat.one_pos))))
theorem wordR_eq (c : Dev nD) : wordR c = BitVec.ofNat 32 (right c).val := by revert c; decide +kernel
theorem wordL_eq (c : Dev nD) : wordL c = BitVec.ofNat 32 (left c).val := by revert c; decide +kernel
theorem chkR (c : Dev nD) : k0_chk1 (wordR c) := by rw [wordR_eq]; revert c; decide +kernel
theorem chkL (c : Dev nD) : k0_chk2 (wordL c) := by rw [wordL_eq]; revert c; decide +kernel
theorem nR_eq (c : Dev nD) (h : k0_chk1 (wordR c)) : nR (wordR c) h = right c := by
  refine Fin.ext ?_
  show k0_dev1 (wordR c) = (right c).val
  rw [wordR_eq]; clear h; revert c; decide +kernel
theorem nL_eq (c : Dev nD) (h : k0_chk2 (wordL c)) : nL (wordL c) h = left c := by
  refine Fin.ext ?_
  show k0_dev2 (wordL c) = (left c).val
  rw [wordL_eq]; clear h; revert c; decide +kernel

/-! ## Meeting the neighbours -/

/-- What a device owes when it starts: a unit to each neighbour's barrier, and every chunk. -/
def O₀ (c : Dev nD) : CellTallies nD τ sig Unit :=
  (owed c 0 + tallyAt (barCell (left c)) () 1) + tallyAt (barCell (right c)) () 1

theorem other_dir : (Finset.univ.filter fun x : X => dir x = 0) = (Finset.univ.filter fun x : X => ¬ dir x = 1) :=
  Finset.filter_congr fun x _ => by
    generalize dir x = d
    match d with
    | 0 => decide
    | 1 => decide
theorem pay_right (c : Dev nD) : (barPay (right c) 1 : sProp 𝕄) = bigSep (Finset.univ.filter fun x : X => dir x = 1) fun x => land c x := by
  unfold barPay
  rw [show onto 1 (right c) = c from left_right c]
theorem pay_left (c : Dev nD) : (barPay (left c) 0 : sProp 𝕄) = bigSep (Finset.univ.filter fun x : X => ¬ dir x = 1) fun x => land c x := by
  unfold barPay
  rw [show onto 0 (left c) = c from right_left c, other_dir]
theorem pay_dir (c : Dev nD) (e : Fin 2) :
    (barPay c e : sProp 𝕄) = bigSep (Finset.univ.filter fun x : X => dir x = e) fun x => land (onto (dir x) c) x := by
  unfold barPay
  exact bigSep_congr fun x hx => by rw [(Finset.mem_filter.mp hx).2]
theorem pay_both (c : Dev nD) : (iprop(barPay c 1 ∗ barPay c 0) : sProp 𝕄) = bigSep Finset.univ fun x : X => land (onto (dir x) c) x := by
  rw [pay_dir, pay_dir, other_dir]
  exact (bigSep_filter_split Finset.univ (fun x : X => dir x = 1) (Φ := fun x : X => (land (onto (dir x) c) x : sProp 𝕄))).symm

/-- A signal to a neighbour's barrier. -/
theorem run_signal (c p : Dev nD) (e : Fin 2) (O : CellTallies nD τ sig Unit) (W : Waits sig Unit) (n : Dev nD) (hn : n = p)
    {α : Type} {Q : α → sProp 𝕄} {k : PUnit → Prog (TpuEff nD τ sig (Elt F) Λ₀ .tc) α} :
    iprop(recs blk res K ∗ owes (c : Thread nD τ) (O + tallyAt (barCell p) () 1) W ∗ dutyTok ER (barCell p) 0 e ∗ reached ER (barCell p) 0 ∗ barPay p e)
      ⊢ iprop((owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n) barS (1#32 : BitVec 32).toInt) k) Q) := by
  subst hn
  rw [show (1#32 : BitVec 32).toInt = ((1#32 : BitVec 32).toNat : Int) from rfl]
  iintro ⟨#Hrec, HO, Ht, Hr, Hp⟩ Hk
  ihave HI := (recs_cell blk res K (bar_mem n)) $$ Hrec
  iapply (Rounds.wp_signal 𝒱₀ ER (rd blk res) (c : Thread nD τ) none (dst := (n : Thread nD τ)) (κ := K (barCell n)) (d := e)
      (by rw [duties_bar]; exact Finset.mem_univ _) (show (rd blk res).amount (barCell n) 0 e = (1#32 : BitVec 32).toNat from amount_bar blk res n e) ()
      (O₀ := O + tallyAt (barCell n) () 1) O rfl) $$ [HI HO Ht Hr Hp]
  · isplitl [HI]; · iexact HI
    isplitl [HO]; · iexact HO
    isplitl [Ht]; · iexact Ht
    isplitl [Hp]; · iapply (Entails.of_eq (payload_bar blk res n e).symm); iexact Hp
    iexact Hr
  iexact Hk

/-- The wait for both neighbours' units. -/
theorem run_await (c : Dev nD) (W : Waits sig Unit)
    {α : Type} {Q : α → sProp 𝕄} {k : PUnit → Prog (TpuEff nD τ sig (Elt F) Λ₀ .tc) α} :
    iprop(recs blk res K ∗ owes (c : Thread nD τ) (owed c 0) W ∗ cred (tallyAt (barCell c) () 2) ∗ atPos ER (barCell c) 0 ∅ 0)
      ⊢ iprop((((∃ W, owes (c : Thread nD τ) (owed c 0) W) ∗ semVal (barCell c) 0 ∗ bigSep Finset.univ fun x : X => land (onto (dir x) c) x)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS (2#32 : BitVec 32).toInt) k) Q) := by
  rw [show (2#32 : BitVec 32).toInt = ((2#32 : BitVec 32).toNat : Int) from rfl]
  iintro ⟨#Hrec, HO, Hc, Hat⟩ Hk
  ihave #HI := (recs_cell blk res K (bar_mem c)) $$ Hrec
  ihave #HM := (BIBase.Entails.trans (recs_lev blk res K) (mayWait_bar (F := F) c)) $$ Hrec
  iapply (Rounds.wp_wait_rest_token 𝒱₀ ER (rd blk res) (c : Thread nD τ) none (κ := K (barCell c))
      (wpE_semWait_eq 𝒱₀ (c : Thread nD τ) none Set.univ) (Set.mem_univ _) () (O := owed c 0) (W := W) (R := 0) (m := 0) (T := ∅)
      (by rw [expect_bar]; decide)) $$ [Hc HO Hat]
  · isplitr; · iexact HI
    isplitl [Hc]; · iexact Hc
    isplitl [HO]; · iexact HO
    isplitr; · iexact HM
    iexact Hat
  iintro ⟨HO, Hat, -, Hp⟩
  imod (close blk res (K (barCell c)) (barCell c)) $$ [Hat] with Hz
  · isplitr; · iexact HI
    iexact Hat
  ihave Hp' := (Entails.of_eq (rest_bar blk res c)) $$ Hp
  icases Hp' with ⟨P0, P1⟩
  iapply Hk
  isplitl [HO]; · iexists _; iexact HO
  isplitl [Hz]; · iexact Hz
  iapply (Entails.of_eq (pay_both (F := F) c))
  isplitl [P1]; · iexact P1
  iexact P0

/-- A device's landing tiles by direction. -/
theorem lands_split (c : Dev nD) : (bigSep Finset.univ fun x : X => (land c x : sProp 𝕄))
    = iprop((bigSep (Finset.univ.filter fun x : X => dir x = 1) fun x => land c x) ∗ bigSep (Finset.univ.filter fun x : X => ¬ dir x = 1) fun x => land c x) :=
  bigSep_filter_split Finset.univ (fun x : X => dir x = 1) (Φ := fun x : X => (land c x : sProp 𝕄))

/-- What the first part needs beside the standing facts: the barrier's place, credit and tokens, the device's landing
tiles, the table, its block of `w` as staged, and somewhere to put it. -/
def meetPre (wb : S64x1024.Idx → Elt F .bf16) (c : Dev nD) : sProp 𝕄 :=
  iprop((∃ W, owes (c : Thread nD τ) (O₀ c) W) ∗ (cred (tallyAt (barCell c) () 2) ∗ atPos ER (barCell c) 0 ∅ 0)
    ∗ (dutyTok ER (barCell (right c)) 0 1 ∗ reached ER (barCell (right c)) 0)
    ∗ (dutyTok ER (barCell (left c)) 0 0 ∗ reached ER (barCell (left c)) 0)
    ∗ (bigSep Finset.univ fun x : X => land c x)
    ∗ ((c : Thread nD τ).loc cc0_stg0_0 ↦{fullShare} (table : S16x2.Idx → Elt F .i32))
    ∗ ((c : Thread nD τ).loc cc0_stg2_0 ↦{fullShare} wb)
    ∗ ∃ f, (c : Thread nD τ).loc cc0_scratch2 ↦{fullShare} f)
/-- and what it leaves. -/
def meetPost (wb : S64x1024.Idx → Elt F .bf16) (c : Dev nD) : sProp 𝕄 :=
  iprop((∃ W, owes (c : Thread nD τ) (owed c 0) W) ∗ semVal (barCell c) 0
    ∗ (bigSep Finset.univ fun x : X => land (onto (dir x) c) x)
    ∗ ((c : Thread nD τ).loc cc0_stg0_0 ↦{fullShare} (table : S16x2.Idx → Elt F .i32))
    ∗ ((c : Thread nD τ).loc cc0_stg2_0 ↦{fullShare} wb)
    ∗ ((c : Thread nD τ).loc cc0_scratch2 ↦{fullShare} (k0_pay1 wb : S64x1024.Idx → Elt F .bf16)))

set_option maxHeartbeats 4000000 in
/-- The first part, run: it leaves the neighbours' names and landing tiles. -/
theorem run_meet (wb : S64x1024.Idx → Elt F .bf16) (c : Dev nD)
    (Q : (Σ' (v4 : Elt F .i32) (k0_hw1 : k0_chk1 v4) (v6 : Elt F .i32), k0_chk2 v6) → sProp 𝕄) :
    iprop(recs blk res K ∗ meetPre wb c)
      ⊢ iprop((meetPost wb c -∗ Q ⟨wordR c, chkR c, wordL c, chkL c⟩)
        -∗ wp frame (wpE (defs₀ (F := F)) 𝒱₀ (c : Thread nD τ) none) Set.univ (at_ (k0_part1 (F := F))) Q) := by
  unfold at_
  rw [k0_part1_eq_skeleton]
  unfold k0_part1_skel
  simp only [semSignalWord, semWaitWord, smemLoad, smemLoadElt, Prog.lift, Prog.bind_op, Prog.bind_ret, Prog.pure_eq_ret, Prog.bind_assoc, wp_deviceId]
  unfold meetPre
  iintro ⟨#Hrec, ⟨%W, HO⟩, ⟨Hc, Hat⟩, ⟨HtR, HrR⟩, ⟨HtL, HrL⟩, Hl, Ht, Hw, ⟨%f, H2⟩⟩ Hk
  ihave Hl' := (Entails.of_eq (lands_split (F := F) c)) $$ Hl
  icases Hl' with ⟨Hl1, Hl0⟩
  iapply (wp_load_rect 𝒱₀ (c : Thread nD τ) none Set.univ (m := tM) (r := Rect.unit (s := S16x2) (k0_off1 c) S1x1.size (k0_off1_inb c)) (Finset.subset_univ _)) $$ Ht; iintro Ht
  iapply (wp_assume 𝒱₀ (c : Thread nD τ) none Set.univ (P := k0_chk1 (wordR c)) (chkR c))
  iapply (wp_load_rect 𝒱₀ (c : Thread nD τ) none Set.univ (m := tM) (r := Rect.unit (s := S16x2) (k0_off2 c) S1x1.size (k0_off2_inb c)) (Finset.subset_univ _)) $$ Ht; iintro Ht
  iapply (wp_assume 𝒱₀ (c : Thread nD τ) none Set.univ (P := k0_chk2 (wordL c)) (chkL c))
  iapply (run_signal blk res K c (right c) 1 (owed c 0 + tallyAt (barCell (left c)) () 1) W _ (nR_eq c (chkR c))) $$ [HO HtR HrR Hl1]
  · isplitr; · iexact Hrec
    isplitl [HO]; · iexact HO
    isplitl [HtR]; · iexact HtR
    isplitl [HrR]; · iexact HrR
    iapply (Entails.of_eq (pay_right (F := F) c).symm); iexact Hl1
  iintro HO
  iapply (run_signal blk res K c (left c) 0 (owed c 0) W _ (nL_eq c (chkL c))) $$ [HO HtL HrL Hl0]
  · isplitr; · iexact Hrec
    isplitl [HO]; · iexact HO
    isplitl [HtL]; · iexact HtL
    isplitl [HrL]; · iexact HrL
    iapply (Entails.of_eq (pay_left (F := F) c).symm); iexact Hl0
  iintro HO
  iapply (run_await blk res K c W) $$ [HO Hc Hat]
  · isplitr; · iexact Hrec
    isplitl [HO]; · iexact HO
    isplitl [Hc] <;> iassumption
  iintro ⟨HO, Hz, Hland⟩
  iapply (wp_load_rect 𝒱₀ (c : Thread nD τ) none Set.univ (m := wM) (r := ownRows) (Finset.subset_univ _)) $$ Hw; iintro Hw
  iapply (wp_load_rect 𝒱₀ (c : Thread nD τ) none Set.univ (m := w2M) (r := ownRows) (Finset.subset_univ _)) $$ H2; iintro H2
  iapply (wp_store 𝒱₀ (c : Thread nD τ) none Set.univ (m := w2M) (r := ownRows) (Mk := Finset.univ) (Finset.subset_univ _)) $$ H2; iintro H2
  rw [wp_ret]; imodintro
  ihave Hk' := (show (iprop(meetPost wb c -∗ Q ⟨wordR c, chkR c, wordL c, chkL c⟩) : sProp 𝕄)
    ⊢ iprop(meetPost wb c -∗ Q ⟨View.read (Elt F) (tM.access (Rect.unit (s := S16x2) (k0_off1 c) S1x1.size (k0_off1_inb c))) (table : S16x2.Idx → Elt F .i32) (Shape.Idx.first (s := S1x1) (numel1_S1x1.symm ▸ Nat.one_pos)), chkR c,
      View.read (Elt F) (tM.access (Rect.unit (s := S16x2) (k0_off2 c) S1x1.size (k0_off2_inb c))) (table : S16x2.Idx → Elt F .i32) (Shape.Idx.first (s := S1x1) (numel1_S1x1.symm ▸ Nat.one_pos)), chkL c⟩) from BIBase.Entails.refl) $$ Hk
  iapply Hk'
  unfold meetPost
  isplitl [HO]; · iexact HO
  isplitl [Hz]; · iexact Hz
  isplitl [Hland]; · iexact Hland
  isplitl [Ht]; · iexact Ht
  isplitl [Hw]; · iexact Hw
  have e1 : ((wM).access ownRows).read (Elt F) wb = wb := Memref.read_access_unit_zero (Elt F) cc0_stg2_0 zeros _ wb
  have e2 : ∀ w : S64x1024.Idx → Elt F .bf16, ((w2M).access ownRows).write (Elt F) f w Finset.univ = w := fun w =>
    Memref.write_access_unit_zero_univ (Elt F) cc0_scratch2 zeros _ f w
  have e : ((w2M).access ownRows).write (Elt F) f (k0_pay1 (((wM).access ownRows).read (Elt F) wb)) Finset.univ = k0_pay1 wb :=
    (e2 _).trans (congrArg k0_pay1 e1)
  iapply (Entails.of_eq (congrArg (fun g : S64x1024.Idx → Elt F .bf16 => ((c : Thread nD τ).loc cc0_scratch2 ↦{fullShare} g : sProp 𝕄)) e)) $$ H2

/-! ## After the meeting -/

/-- The events and products, run: the result is written, every source and tile is back. -/
theorem run_after (c : Dev nD) (Q : PUnit → sProp 𝕄) :
    iprop(recs blk (resOf blk) K ∗ holds blk c 0 ∗ ownHeld blk c ∗ outPre c)
      ⊢ iprop((holds blk c 200 ∗ ownHeld blk c ∗ outPost blk c -∗ Q ⟨⟩)
        -∗ wp frame (wpE (defs₀ (F := F)) 𝒱₀ (c : Thread nD τ) none) Set.univ (afterMeet (F := F) (onto 0 c) (onto 1 c)) Q) := by
  have hop : ∀ (h : Fin 8) (Q : PUnit → sProp 𝕄), iprop(recs blk (resOf blk) K ∗ holds blk c (8 + 16 * h.val))
      ⊢ iprop((holds blk c (8 + 16 * h.val + 16) -∗ Q ⟨⟩)
        -∗ wp frame (wpE (defs₀ (F := F)) 𝒱₀ (c : Thread nD τ) none) Set.univ (ops (F := F) (onto 0 c) (onto 1 c) (hopEvs h.val)) Q) :=
    fun h Q => run_ops blk (resOf blk) K c _ (hopEvs h.val) (ok_hop h) Q
  unfold afterMeet
  simp only [Idealize.SL.Sem.wp_bind]
  iintro ⟨#Hrec, H, Ho, Hp⟩ Hk
  iapply (run_ops blk (resOf blk) K c 0 ownEvs ok_own) $$ [H]
  · isplitr; · iexact Hrec
    iexact H
  iintro H
  iapply (run_dotOwn blk c) $$ Ho
  iintro Ho
  iapply (hop 0) $$ [H]
  · isplitr; · iexact Hrec
    iexact H
  iintro H
  iapply (run_dots blk c (8 + 16 * (0 : Fin 7).val + 16) 0 (le_refl _)) $$ H
  iintro H
  iapply (hop 1) $$ [H]
  · isplitr; · iexact Hrec
    iexact H
  iintro H
  iapply (run_dots blk c (8 + 16 * (1 : Fin 7).val + 16) 1 (le_refl _)) $$ H
  iintro H
  iapply (hop 2) $$ [H]
  · isplitr; · iexact Hrec
    iexact H
  iintro H
  iapply (run_dots blk c (8 + 16 * (2 : Fin 7).val + 16) 2 (le_refl _)) $$ H
  iintro H
  iapply (hop 3) $$ [H]
  · isplitr; · iexact Hrec
    iexact H
  iintro H
  iapply (run_dots blk c (8 + 16 * (3 : Fin 7).val + 16) 3 (le_refl _)) $$ H
  iintro H
  iapply (hop 4) $$ [H]
  · isplitr; · iexact Hrec
    iexact H
  iintro H
  iapply (run_dots blk c (8 + 16 * (4 : Fin 7).val + 16) 4 (le_refl _)) $$ H
  iintro H
  iapply (hop 5) $$ [H]
  · isplitr; · iexact Hrec
    iexact H
  iintro H
  iapply (run_dots blk c (8 + 16 * (5 : Fin 7).val + 16) 5 (le_refl _)) $$ H
  iintro H
  iapply (hop 6) $$ [H]
  · isplitr; · iexact Hrec
    iexact H
  iintro H
  iapply (run_dots blk c (8 + 16 * (6 : Fin 7).val + 16) 6 (le_refl _)) $$ H
  iintro H
  iapply (hop 7) $$ [H]
  · isplitr; · iexact Hrec
    iexact H
  iintro H
  iapply (run_finish blk K c 136 (le_refl _)) $$ [H Hp]
  · isplitr; · iexact Hrec
    isplitl [H] <;> iassumption
  iintro ⟨H, Hp⟩
  iapply (run_ops blk (resOf blk) K c 136 leftAll ok_left) $$ [H]
  · isplitr; · iexact Hrec
    iexact H
  iintro H
  iapply Hk
  isplitl [H]; · iexact H
  isplitl [Ho] <;> iassumption

/-! ## The whole body -/

/-- Something of each of a device's semaphores, by what they are for. -/
theorem slots (c : Dev nD) (Φ : GSem nD τ sig → sProp 𝕄) :
    (bigSep Finset.univ fun y : Slot => Φ (scCell (c, y)))
      = iprop((bigSep Finset.univ fun x : X => Φ (sCell c x)) ∗ (bigSep Finset.univ fun x : X => Φ (rCell c x))
        ∗ bigSep Finset.univ fun i : Fin 2 => Φ (oCell c i)) := by
  rw [bigSep_univ_sum, bigSep_univ_sum]
  rw [bigSep_congr (fun x _ => congrArg (fun sm => Φ ((c : Thread nD τ), sm)) (ownSem_r x)),
    bigSep_congr (fun i _ => congrArg (fun sm => Φ ((c : Thread nD τ), sm)) (ownSem_o i))]
  rfl

/-- The protocol's resources of a device when it starts: -/
def talk (c : Dev nD) : sProp 𝕄 :=
  iprop((cred (tallyAt (barCell c) () 2) ∗ atPos ER (barCell c) 0 ∅ 0)
    ∗ (dutyTok ER (barCell (right c)) 0 1 ∗ reached ER (barCell (right c)) 0)
    ∗ (dutyTok ER (barCell (left c)) 0 0 ∗ reached ER (barCell (left c)) 0)
    ∗ (bigSep Finset.univ fun x : X => iprop(dutyTok ER (sCell c x) 0 0 ∗ dutyTok ER (rCell (onto (dir x) c) x) 0 0))
    ∗ (bigSep Finset.univ fun x : X => cred (tallyAt (rCell c x) () N))
    ∗ (bigSep Finset.univ fun i : Fin 2 => dutyTok ER (oCell c i) 0 0)
    ∗ (bigSep Finset.univ fun y : Slot => iprop(atPos ER (scCell (c, y)) 0 ∅ 0 ∗ reached ER (scCell (c, y)) 0)))
/-- the buffers it works in, at whatever they hold; -/
def work (c : Dev nD) : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f))
/-- and those it reads. -/
def inputs (xb wb : S64x1024.Idx → Elt F .bf16) (c : Dev nD) : sProp 𝕄 :=
  iprop(((c : Thread nD τ).loc cc0_stg0_0 ↦{fullShare} (table : S16x2.Idx → Elt F .i32))
    ∗ ((c : Thread nD τ).loc cc0_stg1_0 ↦{fullShare} xb) ∗ ((c : Thread nD τ).loc cc0_stg2_0 ↦{fullShare} wb))

theorem lands_intro (c : Dev nD) :
    (iprop((∃ f, (c : Thread nD τ).loc cc0_scratch0 ↦{fullShare} f) ∗ (∃ f, (c : Thread nD τ).loc cc0_scratch1 ↦{fullShare} f)
        ∗ bigSep Finset.univ fun x : X => reached ER (rCell c x) 0) : sProp 𝕄)
      ⊢ bigSep Finset.univ fun x : X => land c x := by
  have e : (bigSep Finset.univ fun x : X => (land c x : sProp 𝕄))
      = iprop((bigSep Finset.univ fun x : X => iprop(∃ Y, ownsTc c (dstV x) fullShare Y)) ∗ bigSep Finset.univ fun x : X => reached ER (rCell c x) 0) :=
    bigSep_sep' _ _ _
  rw [e, bigSep_univ_prod (fun x : X => (iprop(∃ Y, ownsTc c (dstV x) fullShare Y) : sProp 𝕄)), bigSep_univ_two]
  iintro ⟨⟨%f0, H0⟩, ⟨%f1, H1⟩, Hr⟩
  isplitl [H0 H1]
  · isplitl [H0]
    · iapply (tiles_of (F := F) 0 c); iexists f0; iexact H0
    · iapply (tiles_of (F := F) 1 c); iexists f1; iexact H1
  iexact Hr

theorem sndPre_one (c : Dev nD) (x : X) :
    (iprop((dutyTok ER (sCell c x) 0 0 ∗ dutyTok ER (rCell (onto (dir x) c) x) 0 0) ∗ land (onto (dir x) c) x
        ∗ atPos ER (sCell c x) 0 ∅ 0 ∗ reached ER (sCell c x) 0) : sProp 𝕄)
      ⊢ sndSide c 0 x := by
  rw [snd_at_start]
  unfold sndPre
  iintro ⟨⟨A, B⟩, C, D, E⟩
  isplitl [A]; · iexact A
  isplitl [B]; · iexact B
  isplitl [C]; · iexact C
  isplitl [D]; · iexact D
  iexact E

theorem sndPre_intro (c : Dev nD) :
    (iprop((bigSep Finset.univ fun x : X => iprop(dutyTok ER (sCell c x) 0 0 ∗ dutyTok ER (rCell (onto (dir x) c) x) 0 0))
        ∗ (bigSep Finset.univ fun x : X => land (onto (dir x) c) x)
        ∗ (bigSep Finset.univ fun x : X => atPos ER (sCell c x) 0 ∅ 0) ∗ bigSep Finset.univ fun x : X => reached ER (sCell c x) 0) : sProp 𝕄)
      ⊢ bigSep Finset.univ (sndSide c 0) := by
  rw [← bigSep_sep', ← bigSep_sep', ← bigSep_sep']
  exact bigSep_mono fun x _ => sndPre_one (F := F) c x

theorem rcvPre_intro (c : Dev nD) :
    (iprop((bigSep Finset.univ fun x : X => cred (tallyAt (rCell c x) () N)) ∗ bigSep Finset.univ fun x : X => atPos ER (rCell c x) 0 ∅ 0) : sProp 𝕄)
      ⊢ bigSep Finset.univ (rcvSide blk c 0) := by
  rw [← bigSep_sep']
  exact Entails.of_eq (bigSep_congr fun x _ => (rcv_at_start blk c x).symm)

theorem outToks_intro (c : Dev nD) :
    (iprop((bigSep Finset.univ fun i : Fin 2 => dutyTok ER (oCell c i) 0 0)
        ∗ (bigSep Finset.univ fun i : Fin 2 => atPos ER (oCell c i) 0 ∅ 0) ∗ bigSep Finset.univ fun i : Fin 2 => reached ER (oCell c i) 0) : sProp 𝕄)
      ⊢ bigSep Finset.univ fun i : Fin 2 => iprop(dutyTok ER (oCell c i) 0 0 ∗ atPos ER (oCell c i) 0 ∅ 0 ∗ reached ER (oCell c i) 0) := by
  rw [← bigSep_sep', ← bigSep_sep']

theorem slots_open (c : Dev nD) :
    (bigSep Finset.univ fun y : Slot => iprop(atPos ER (scCell (c, y)) 0 ∅ 0 ∗ reached ER (scCell (c, y)) 0) : sProp 𝕄)
      = iprop(((bigSep Finset.univ fun x : X => atPos ER (sCell c x) 0 ∅ 0) ∗ (bigSep Finset.univ fun x : X => atPos ER (rCell c x) 0 ∅ 0)
          ∗ bigSep Finset.univ fun i : Fin 2 => atPos ER (oCell c i) 0 ∅ 0)
        ∗ ((bigSep Finset.univ fun x : X => reached ER (sCell c x) 0) ∗ (bigSep Finset.univ fun x : X => reached ER (rCell c x) 0)
          ∗ bigSep Finset.univ fun i : Fin 2 => reached ER (oCell c i) 0)) := by
  rw [bigSep_sep', slots c (fun g => atPos ER g 0 ∅ 0), slots c (fun g => reached ER g 0)]

/-- The whole body, run on device `c`: whatever its buffers hold, it leaves the result computed from the devices' blocks,
every buffer back and every semaphore at zero. -/
theorem run_body (wb : S64x1024.Idx → Elt F .bf16) (c : Dev nD) (hw : blk 1 c = k0_pay1 wb) (Q : PUnit → sProp 𝕄) :
    iprop(recs blk (resOf blk) K ∗ talk c ∗ (∃ W, owes (c : Thread nD τ) (O₀ c) W) ∗ inputs (blk 0 c) wb c ∗ work c
        ∗ ∃ f, (c : Thread nD τ).loc main_v2 ↦{fullShare} f)
      ⊢ iprop((((∃ W, owes (c : Thread nD τ) 0 W) ∗ (semVal (barCell c) 0 ∗ bigSep Finset.univ fun y : Slot => semVal (scCell (c, y)) 0)
            ∗ inputs (blk 0 c) wb c ∗ work c ∗ ((c : Thread nD τ).loc main_v2 ↦{fullShare} (out blk c : S1024x1024.Idx → Elt F .f32))) -∗ Q ⟨⟩)
        -∗ wp frame (wpE (defs₀ (F := F)) 𝒱₀ (c : Thread nD τ) none) Set.univ (at_ (cc0_body (F := F))) Q) := by
  rw [body_eq, Idealize.SL.Sem.wp_bind]
  unfold talk inputs work
  rw [slots_open, slots c (fun g => semVal g 0)]
  iintro ⟨#Hrec, ⟨⟨Hcb, Hab⟩, HR, HL, Htok, Hcr, Hot, ⟨HaS, HaR, HaO⟩, HrS, HrR, HrO⟩, HO, ⟨Ht, Hx, Hw⟩, ⟨H0, H1, H2, H3⟩, Hv⟩ Hk
  ihave Hl := (lands_intro (F := F) c) $$ [H0 H1 HrR]
  · isplitl [H0]; · iexact H0
    isplitl [H1]; · iexact H1
    iexact HrR
  iapply (run_meet blk (resOf blk) K wb c) $$ [HO Hcb Hab HR HL Hl Ht Hw H2]
  · isplitr; · iexact Hrec
    unfold meetPre
    isplitl [HO]; · iexact HO
    isplitl [Hcb Hab]; · isplitl [Hcb] <;> iassumption
    isplitl [HR]; · iexact HR
    isplitl [HL]; · iexact HL
    isplitl [Hl]; · iexact Hl
    isplitl [Ht]; · iexact Ht
    isplitl [Hw]; · iexact Hw
    iexact H2
  unfold meetPost
  iintro ⟨HO, Hzb, Hl, Ht, Hw, H2⟩
  ihave Hown := (own_open blk c) $$ [Hx H2]
  · unfold ownFull
    rw [owns_oM, owns_oM]
    isplitl [Hx]; · iexact Hx
    iapply (Entails.of_eq (congrArg (fun g : S64x1024.Idx → Elt F .bf16 => ((c : Thread nD τ).loc cc0_scratch2 ↦{fullShare} g : sProp 𝕄)) hw.symm)) $$ H2
  icases Hown with ⟨Hheld, Hsrc⟩
  iapply (Entails.of_eq (show (wp frame (wpE (defs₀ (F := F)) 𝒱₀ (c : Thread nD τ) none) Set.univ (afterMeet (F := F) (onto 0 c) (onto 1 c)) Q : sProp 𝕄)
      = wp frame (wpE (defs₀ (F := F)) 𝒱₀ (c : Thread nD τ) none) Set.univ (afterMeet (F := F) (nR (wordR c) (chkR c)) (nL (wordL c) (chkL c))) Q from by
    rw [nR_eq, nL_eq]; rfl))
  iapply (run_after blk K c) $$ [HO Htok Hl HaS HrS Hcr HaR Hsrc Hheld H3 Hv Hot HaO HrO]
  · isplitr; · iexact Hrec
    isplitl [HO Htok Hl HaS HrS Hcr HaR Hsrc]
    · unfold holds
      isplitl [HO]; · iexact HO
      isplitl [Htok Hl HaS HrS]
      · iapply (sndPre_intro (F := F) c)
        isplitl [Htok]; · iexact Htok
        isplitl [Hl]; · iexact Hl
        isplitl [HaS]; · iexact HaS
        iexact HrS
      isplitl [Hcr HaR]
      · iapply (rcvPre_intro blk c)
        isplitl [Hcr]; · iexact Hcr
        iexact HaR
      iexact Hsrc
    isplitl [Hheld]; · iexact Hheld
    unfold outPre
    isplitl [H3]; · iexact H3
    isplitl [Hv]; · iexact Hv
    iapply (outToks_intro (F := F) c)
    isplitl [Hot]; · iexact Hot
    isplitl [HaO]; · iexact HaO
    iexact HrO
  unfold outPost
  iintro ⟨H, Hheld, H3, Hv, Ho⟩
  ihave H' := (holds_end blk c) $$ [H Hheld]
  · isplitl [H] <;> iassumption
  unfold ownFull
  icases H' with ⟨HO, Hs, Hr, G0, G1, O0, O1⟩
  iapply Hk
  isplitl [HO]; · iexact HO
  isplitl [Hzb Hs Hr Ho]
  · isplitl [Hzb]; · iexact Hzb
    isplitl [Hs]; · iexact Hs
    isplitl [Hr]; · iexact Hr
    iexact Ho
  ihave O0' := (Entails.of_eq (owns_oM blk 0 c fullShare)) $$ O0
  ihave O1' := (Entails.of_eq (owns_oM blk 1 c fullShare)) $$ O1
  isplitl [Ht O0' Hw]
  · isplitl [Ht]; · iexact Ht
    isplitl [O0']; · iexact O0'
    iexact Hw
  isplitl [G0 G1 O1' H3]
  · isplitl [G0]; · iexists _; iexact G0
    isplitl [G1]; · iexists _; iexact G1
    isplitl [O1']; · iexists _; iexact O1'
    iexact H3
  iexact Hv

end Cert.KernelIdeal.Around
-- ==== Proof.KernelIdeal.Deal.lean ====
/-
What the launch deals to the devices: the names of all cells, each device's positions and tokens, its credits; and how a
device, when the kernel is entered, puts its own semaphores to use.
-/
module

public import proofs.«01_k».proof.Proof.KernelIdeal.Body

@[expose] public section

set_option maxRecDepth 100000

noncomputable section

namespace Cert.KernelIdeal.Around

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (blk : Blocks F) (res : Results F)

/-! ## The tokens -/

theorem own_ne_bar (k : Fin 130) : ownSem k ≠ .reg barS := fun h => by unfold ownSem at h; cases h
theorem r_sem_ne_bar (x : X) : (SemLoc.dma (rsem x) : SemLoc sig) ≠ .reg barS := fun h => by cases h

theorem disjoint_cells : Disjoint barCells scCells := by
  rw [Finset.disjoint_left]
  rintro g h₁ h₂
  obtain ⟨c, -, rfl⟩ := Finset.mem_map.mp h₁
  obtain ⟨⟨d, y⟩, -, h⟩ := Finset.mem_map.mp h₂
  have h' : ownSem (slotIx y) = .reg barS := congrArg Prod.snd h
  exact own_ne_bar _ h'

/-- The duties of a device's cells: two at its barrier, one at each semaphore of its own. -/
def dutyAt (p : Dev nD × (Fin 2 ⊕ Slot)) : GSem nD τ sig × ℕ × Fin 2 :=
  match p with
  | (c, .inl e) => (barCell c, 0, e)
  | (c, .inr y) => (scCell (c, y), 0, 0)
theorem dutyAt_inj : Function.Injective dutyAt := by
  rintro ⟨c, e | y⟩ ⟨c', e' | y'⟩ h
  · have h1 := congrArg (fun t : GSem nD τ sig × ℕ × Fin 2 => t.1.1.1) h
    have h2 := congrArg (fun t : GSem nD τ sig × ℕ × Fin 2 => t.2.2) h
    exact Prod.ext h1 (congrArg Sum.inl h2)
  · have h1 : (SemLoc.reg barS : SemLoc sig) = ownSem (slotIx y') := congrArg (fun t : GSem nD τ sig × ℕ × Fin 2 => t.1.2) h
    exact absurd h1.symm (own_ne_bar _)
  · have h1 : ownSem (slotIx y) = (SemLoc.reg barS : SemLoc sig) := congrArg (fun t : GSem nD τ sig × ℕ × Fin 2 => t.1.2) h
    exact absurd h1 (own_ne_bar _)
  · have h1 : (c, y) = (c', y') := scEmb.injective (congrArg (fun t : GSem nD τ sig × ℕ × Fin 2 => t.1) h)
    obtain ⟨rfl, rfl⟩ := Prod.mk.inj h1
    rfl
/-- Every duty of the protocol. -/
def allDuties : Finset (GSem nD τ sig × ℕ × Fin 2) := Finset.univ.map ⟨dutyAt, dutyAt_inj⟩

/-- The tokens of the duties that device `c` pays. -/
def tokens (c : Dev nD) : sProp 𝕄 :=
  iprop(dutyTok ER (barCell (right c)) 0 1 ∗ dutyTok ER (barCell (left c)) 0 0
    ∗ (bigSep Finset.univ fun x : X => iprop(dutyTok ER (sCell c x) 0 0 ∗ dutyTok ER (rCell (onto (dir x) c) x) 0 0))
    ∗ bigSep Finset.univ fun i : Fin 2 => dutyTok ER (oCell c i) 0 0)

theorem duties_by_cell : (bigSep allDuties fun t => (dutyTok ER t.1 t.2.1 t.2.2 : sProp 𝕄))
    = bigSep Finset.univ fun c : Dev nD => iprop((dutyTok ER (barCell c) 0 0 ∗ dutyTok ER (barCell c) 0 1)
        ∗ ((bigSep Finset.univ fun x : X => dutyTok ER (sCell c x) 0 0) ∗ (bigSep Finset.univ fun x : X => dutyTok ER (rCell c x) 0 0)
          ∗ bigSep Finset.univ fun i : Fin 2 => dutyTok ER (oCell c i) 0 0)) := by
  unfold allDuties
  rw [bigSep_map, bigSep_univ_prod]
  refine bigSep_congr fun c _ => ?_
  rw [bigSep_univ_sum, bigSep_univ_two]
  exact congrArg (fun P : sProp 𝕄 => iprop((dutyTok ER (barCell c) 0 0 ∗ dutyTok ER (barCell c) 0 1) ∗ P)) (slots c fun g => dutyTok ER g 0 0)

/-- A landing's token goes to the device that sends the chunk. -/
theorem land_tokens : (bigSep Finset.univ fun c : Dev nD => bigSep Finset.univ fun x : X => (dutyTok ER (rCell c x) 0 0 : sProp 𝕄))
    = bigSep Finset.univ fun c : Dev nD => bigSep Finset.univ fun x : X => dutyTok ER (rCell (onto (dir x) c) x) 0 0 := by
  rw [Pipeline.bigSep_univ_comm (fun (c : Dev nD) (x : X) => (dutyTok ER (rCell c x) 0 0 : sProp 𝕄)),
    Pipeline.bigSep_univ_comm (fun (c : Dev nD) (x : X) => (dutyTok ER (rCell (onto (dir x) c) x) 0 0 : sProp 𝕄))]
  exact bigSep_congr fun x _ => bigSep_univ_equiv (toEquiv (dir x)) fun c : Dev nD => (dutyTok ER (rCell c x) 0 0 : sProp 𝕄)

theorem bar_tokens : (bigSep Finset.univ fun c : Dev nD => (dutyTok ER (barCell c) 0 1 : sProp 𝕄))
    = bigSep Finset.univ fun c : Dev nD => dutyTok ER (barCell (right c)) 0 1 :=
  bigSep_univ_equiv (toEquiv 0) fun c : Dev nD => (dutyTok ER (barCell c) 0 1 : sProp 𝕄)
theorem bar_tokens' : (bigSep Finset.univ fun c : Dev nD => (dutyTok ER (barCell c) 0 0 : sProp 𝕄))
    = bigSep Finset.univ fun c : Dev nD => dutyTok ER (barCell (left c)) 0 0 :=
  bigSep_univ_equiv (toEquiv 1) fun c : Dev nD => (dutyTok ER (barCell c) 0 0 : sProp 𝕄)

theorem tokens_one (c : Dev nD) :
    (iprop(dutyTok ER (barCell (left c)) 0 0 ∗ dutyTok ER (barCell (right c)) 0 1
        ∗ (bigSep Finset.univ fun x : X => dutyTok ER (sCell c x) 0 0)
        ∗ (bigSep Finset.univ fun x : X => dutyTok ER (rCell (onto (dir x) c) x) 0 0)
        ∗ bigSep Finset.univ fun i : Fin 2 => dutyTok ER (oCell c i) 0 0) : sProp 𝕄) ⊢ tokens c := by
  unfold tokens
  rw [bigSep_sep']
  iintro ⟨A, B, C, D, E⟩
  isplitl [B]; · iexact B
  isplitl [A]; · iexact A
  isplitl [C D]; · isplitl [C] <;> iassumption
  iexact E

/-- The tokens, dealt. -/
theorem tokens_dealt : (bigSep allDuties fun t => (dutyTok ER t.1 t.2.1 t.2.2 : sProp 𝕄)) ⊢ bigSep Finset.univ fun c : Dev nD => tokens c := by
  rw [duties_by_cell]
  refine BIBase.Entails.trans ?_ (bigSep_mono fun c _ => tokens_one c)
  simp only [bigSep_sep']
  rw [land_tokens, bar_tokens, bar_tokens']
  iintro ⟨⟨A, B⟩, C, D, E⟩
  isplitl [A]; · iexact A
  isplitl [B]; · iexact B
  isplitl [C]; · iexact C
  isplitl [D]; · iexact D
  iexact E

/-! ## The credits -/

theorem cell_r_inj {a b : Dev nD} {x y : X} (h : rCell a x = rCell b y) : a = b ∧ x = y := by
  have h1 : role (.dma (rsem x)) = role (.dma (rsem y)) := congrArg (fun g : GSem nD τ sig => role g.2) h
  rw [role_r, role_r] at h1
  exact ⟨congrArg (fun g : GSem nD τ sig => g.1.1) h, by cases h1; rfl⟩
theorem r_ne_bar (a b : Dev nD) (x : X) : rCell a x ≠ barCell b := fun h => r_sem_ne_bar x (congrArg Prod.snd h)

theorem owed_at_bar (d c : Dev nD) (n : ℕ) : owed d n (barCell c) () = 0 := by
  by_contra h
  obtain ⟨x, p, -, e⟩ := owed_pos (Nat.pos_of_ne_zero h)
  exact r_ne_bar p c x e.symm
theorem owed_at_r (d c : Dev nD) (x : X) : owed d 0 (rCell c x) () = if d = fro (dir x) c then N else 0 := by
  unfold owed
  rw [Finset.sum_apply, Finsupp.finset_sum_apply, Finset.sum_eq_single x]
  · rw [tallyAt_apply]
    by_cases h : d = fro (dir x) c
    · subst h; rw [to_fro, if_pos ⟨rfl, rfl⟩, if_pos rfl]
    · rw [if_neg (fun e => h (by rw [(cell_r_inj e.1).1, fro_to])), if_neg h]
  · intro y _ hy
    rw [tallyAt_apply, if_neg (fun e => hy (cell_r_inj e.1).2.symm)]
  · intro h; exact absurd (Finset.mem_filter.mpr ⟨Finset.mem_univ x, Nat.zero_le _⟩) h

theorem bar_tally (f : Dev nD → Dev nD) (g : Dev nD → Dev nD) (hfg : ∀ d, g (f d) = d) (hgf : ∀ d, f (g d) = d) (d c : Dev nD) :
    tallyAt (barCell (f d)) () 1 (barCell c) () = if d = g c then 1 else 0 := by
  rw [tallyAt_apply]
  by_cases h : d = g c
  · subst h; rw [hgf, if_pos ⟨rfl, rfl⟩, if_pos rfl]
  · rw [if_neg (fun e => h (by rw [show c = f d from congrArg (fun g : GSem nD τ sig => g.1.1) e.1, hfg])), if_neg h]
theorem bar_tally_r (p c : Dev nD) (x : X) : tallyAt (barCell p) () 1 (rCell c x) () = 0 := by
  rw [tallyAt_apply, if_neg (fun e => r_ne_bar _ _ _ e.1)]

theorem due_bar (d c : Dev nD) : O₀ d (barCell c) () = (if d = right c then 1 else 0) + if d = left c then 1 else 0 := by
  unfold O₀
  rw [Pi.add_apply, Pi.add_apply, Finsupp.add_apply, Finsupp.add_apply, owed_at_bar, Nat.zero_add,
    bar_tally left right right_left left_right, bar_tally right left left_right right_left]
theorem due_r (d c : Dev nD) (x : X) : O₀ d (rCell c x) () = if d = fro (dir x) c then N else 0 := by
  unfold O₀
  rw [Pi.add_apply, Pi.add_apply, Finsupp.add_apply, Finsupp.add_apply, owed_at_r, bar_tally_r, bar_tally_r, Nat.add_zero]

theorem credit_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => due_bar d c, Finset.sum_add_distrib,
    Finset.sum_ite_eq' Finset.univ (right c) fun _ => 1, Finset.sum_ite_eq' Finset.univ (left c) fun _ => 1,
    if_pos (Finset.mem_univ _), if_pos (Finset.mem_univ _)]
theorem credit_r (c : Dev nD) (x : X) :
    tallyOn (rCell c x) (launchCredit (Pipeline.owing O₀) 0 (rCell c x)) = (tallyAt (rCell c x) () N : CellTallies nD τ sig Unit) := by
  unfold tallyAt
  refine congrArg _ (Finsupp.ext fun u => ?_)
  cases u
  rw [Pipeline.launchCredit_owing, Finsupp.single_eq_same, Finset.sum_congr rfl fun d _ => due_r d c x,
    Finset.sum_ite_eq' Finset.univ (fro (dir x) c) fun _ => N, if_pos (Finset.mem_univ _)]

/-- A device's credits: two at its barrier, one chunk's at each receive semaphore. -/
def credits (c : Dev nD) : sProp 𝕄 :=
  iprop(cred (tallyAt (barCell c) () 2) ∗ bigSep Finset.univ fun x : X => cred (tallyAt (rCell c x) () N))

def rEmb : X ↪ SemLoc sig := ⟨fun x => .dma (rsem x), fun x y h => by
  have h1 : role (.dma (rsem x)) = role (.dma (rsem y)) := congrArg role h
  rw [role_r, role_r] at h1; cases h1; rfl⟩

theorem credits_dealt (c : Dev nD) : (Pipeline.launchCred O₀ c : sProp 𝕄) ⊢ credits c := by
  unfold Pipeline.launchCred credits
  rw [bigSep_univ_at _ (SemLoc.reg barS), credit_bar]
  refine sep_mono_right ?_
  refine BIBase.Entails.trans (BI.bigSep_subset (t := Finset.univ.map rEmb) ?_) ?_
  · intro sm h
    obtain ⟨x, -, rfl⟩ := Finset.mem_map.mp h
    exact Finset.mem_erase.mpr ⟨r_sem_ne_bar x, Finset.mem_univ _⟩
  · rw [bigSep_map]
    exact bigSep_mono fun x _ => Entails.of_eq (congrArg (fun t => (cred t : sProp 𝕄)) (credit_r c x))

/-! ## The records and a device's share -/

/-- What every device may consult: all cells' invariants, and that every barrier has begun. -/
def records (κ : GSem nD τ sig → ℕ) : sProp 𝕄 :=
  iprop((bigSep (barCells ∪ scCells) fun g => cellInv ER (rd blk res) (κ g) g) ∗ bigSep barCells fun g => reached ER g 0)

instance records_persistent (κ : GSem nD τ sig → ℕ) : BI.Persistent (records blk res κ : sProp 𝕄) := by unfold records; infer_instance

theorem bar_begun (c : Dev nD) : (bigSep barCells fun g => (reached ER g 0 : sProp 𝕄)) ⊢ reached ER (barCell c) 0 :=
  bigSep_elim (Finset.mem_map_of_mem barEmb (Finset.mem_univ c))

/-- What is a device's alone: its barrier's position, the right to put its semaphores to use, its tokens. -/
def alone (c : Dev nD) : sProp 𝕄 :=
  iprop(atPos ER (barCell c) 0 ∅ 0 ∗ (bigSep Finset.univ fun y : Slot => openTok ER (scCell (c, y))) ∗ tokens c)

/-- What a device keeps until the kernel is entered. -/
def kept (c : Dev nD) : sProp 𝕄 := iprop((∃ κ, records blk res κ) ∗ alone c ∗ credits c)

/-! ## Entering the kernel -/

/-- The kernel's own semaphores that the protocol does not use. -/
def spare (c : Dev nD) : sProp 𝕄 := bigSep (Finset.univ \ Finset.univ.map slotEmb) fun k => semVal ((c : Thread nD τ), ownSem k) 0

theorem own_sems (c : Dev nD) : (Pipeline.ownSems0 ownSem c : sProp 𝕄)
    = iprop((bigSep Finset.univ fun y : Slot => semVal (scCell (c, y)) 0) ∗ spare c) := by
  have e : (Pipeline.ownSems0 ownSem c : sProp 𝕄) = bigSep Finset.univ fun k => semVal ((c : Thread nD τ), ownSem k) 0 := rfl
  have h : bigSep (Finset.univ.map slotEmb ∪ (Finset.univ \ Finset.univ.map slotEmb)) (fun k => (semVal ((c : Thread nD τ), ownSem k) 0 : sProp 𝕄))
      = BI.sep (bigSep (Finset.univ.map slotEmb) fun k => semVal ((c : Thread nD τ), ownSem k) 0) (spare c) :=
    BI.bigSep_union Finset.disjoint_sdiff
  rw [Finset.union_sdiff_of_subset (Finset.subset_univ _), bigSep_map] at h
  exact e.trans h

theorem open_one (κ : GSem nD τ sig → ℕ) (c : Dev nD) (y : Slot) :
    (iprop((bigSep (barCells ∪ scCells) fun g => cellInv ER (rd blk res) (κ g) g) ∗ (openTok ER (scCell (c, y)) ∗ semVal (scCell (c, y)) 0)) : sProp 𝕄)
      ⊢ |={Set.univ}=> iprop(atPos ER (scCell (c, y)) 0 ∅ 0 ∗ reached ER (scCell (c, y)) 0) := by
  iintro ⟨#HI, Ho, Hs⟩
  iapply (Rounds.cell_open ER (rd blk res) (g := scCell (c, y)) (Set.mem_univ (κ (scCell (c, y)))))
  isplitr
  · iapply (show (bigSep (barCells ∪ scCells) fun g => (cellInv ER (rd blk res) (κ g) g : sProp 𝕄)) ⊢ cellInv ER (rd blk res) (κ (scCell (c, y))) (scCell (c, y)) from
      bigSep_elim (Φ := fun g => cellInv ER (rd blk res) (κ g) g) (sc_mem c y))
    iexact HI
  isplitl [Ho] <;> iassumption

theorem open_all (κ : GSem nD τ sig → ℕ) (c : Dev nD) :
    (iprop((bigSep (barCells ∪ scCells) fun g => cellInv ER (rd blk res) (κ g) g)
        ∗ bigSep Finset.univ fun y : Slot => iprop(openTok ER (scCell (c, y)) ∗ semVal (scCell (c, y)) 0)) : sProp 𝕄)
      ⊢ |={Set.univ}=> bigSep Finset.univ fun y : Slot => iprop(atPos ER (scCell (c, y)) 0 ∅ 0 ∗ reached ER (scCell (c, y)) 0) :=
  BIBase.Entails.trans (bigSep_with_persistent fun y _ => open_one blk res κ c y) (bigSep_fupd _ _)

/-- What a device has once its semaphores are in use. -/
def opened (c : Dev nD) : sProp 𝕄 := iprop((∃ K, recs blk res K) ∗ talk c ∗ spare c)

theorem enter (c : Dev nD) : iprop(kept blk res c ∗ Pipeline.ownSems0 ownSem c ∗ levAts L lv) ⊢ (|={Set.univ}=> opened blk res c : sProp 𝕄) := by
  rw [own_sems]
  unfold kept alone records tokens credits
  iintro ⟨⟨⟨%κ, #HI, #HR⟩, ⟨Hat, Hopen, HtR, HtL, Htk, Hto⟩, Hcb, Hcr⟩, ⟨Hs, Hsp⟩, #Hlev⟩
  imod (open_all blk res κ c) $$ [Hopen Hs] with Hslots
  · isplitr; · iexact HI
    iapply (Entails.of_eq (bigSep_sep' (Finset.univ : Finset Slot) (fun y => (openTok ER (scCell (c, y)) : sProp 𝕄)) fun y => semVal (scCell (c, y)) 0).symm)
    isplitl [Hopen] <;> iassumption
  imodintro
  unfold opened talk
  isplitr
  · iexists κ
    unfold recs
    isplitr; · iexact Hlev
    iexact HI
  isplitr [Hsp]
  · isplitl [Hcb Hat]; · isplitl [Hcb] <;> iassumption
    isplitl [HtR]
    · isplitl [HtR]; · iexact HtR
      iapply (bar_begun (F := F) (right c)); iexact HR
    isplitl [HtL]
    · isplitl [HtL]; · iexact HtL
      iapply (bar_begun (F := F) (left c)); iexact HR
    isplitl [Htk]; · iexact Htk
    isplitl [Hcr]; · iexact Hcr
    isplitl [Hto]; · iexact Hto
    iexact Hslots
  iexact Hsp

end Cert.KernelIdeal.Around

end
-- ==== Proof.KernelIdeal.Launch.lean ====
/-
The whole program: the host prepares the table and the transposed operand, the kernel runs on every device, and at the end
each device's result is known, its arguments are as they were and every semaphore is at zero.
-/
module

public import proofs.«01_k».proof.Proof.KernelIdeal.Deal
public import proofs.«01_k».proof.Proof.Gen.KernelIdeal.Frame
public import Idealize.ShloMosaic.Lib.Pipeline.RegionTalk
public import Idealize.ShloMosaic.Lib.Quiescent

@[expose] public section

set_option maxRecDepth 100000

noncomputable section

namespace Cert.KernelIdeal.Around

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the buffers hold -/

/-- A device's block of the left operand, transposed, -/
def xT (c : Dev nD) : S64x1024.Idx → Elt F .bf16 :=
  transpose S64x1024 [1, 0] (m ((c : Thread nD τ).loc main_arg0) : S1024x64.Idx → Elt F .bf16) transposes_S1024x64_S64x1024_1_0
/-- and of the right one. -/
def wB (c : Dev nD) : S64x1024.Idx → Elt F .bf16 := m ((c : Thread nD τ).loc main_arg1)
/-- The devices' blocks, as the kernel sends them round. -/
def blks : Blocks F := fun s c => match s with | 0 => xT m c | 1 => k0_pay1 (wB m c)
/-- The result on device `c`. -/
def result (c : Dev nD) : S1024x1024.Idx → Elt F .f32 := out (blks m) c

/-- The buffers as launched, -/
abbrev V₀ (c : Dev nD) : Valuation τ sig (Elt F) := fun b => m (c, b)
/-- when the kernel is entered, -/
abbrev V₁ (c : Dev nD) : Valuation τ sig (Elt F) := StableHlo.after hostOps0 (V₀ m c)
/-- and when it is left. -/
abbrev V₂ (c : Dev nD) : Valuation τ sig (Elt F) := Function.update (V₁ m c) (Proc.devRef .tc main_v2) (result m c)

theorem V₁_table (c : Dev nD) : V₁ m c (Proc.devRef .tc main_c) = (table : S16x2.Idx → Elt F .i32) := by
  unfold V₁ hostOps0
  rw [StableHlo.after_cons, StableHlo.after_cons, StableHlo.after_nil, StableHlo.unary_result_ne (h := by decide), StableHlo.nullary_result]
  rfl
theorem V₁_x (c : Dev nD) : V₁ m c (Proc.devRef .tc main_v1) = xT m c := by
  unfold V₁ hostOps0
  rw [StableHlo.after_cons, StableHlo.after_cons, StableHlo.after_nil, StableHlo.unary_result, StableHlo.nullary_result_ne (h := by decide)]
  rfl
theorem V₁_w (c : Dev nD) : V₁ m c (Proc.devRef .tc main_arg1) = wB m c := V_main_arg1 m c
theorem V₁_arg0 (c : Dev nD) : V₁ m c (Proc.devRef .tc main_arg0) = m ((c : Thread nD τ).loc main_arg0) := V_main_arg0 m c
theorem V₂_out (c : Dev nD) : V₂ m c (Proc.devRef .tc main_v2) = result m c := Function.update_self ..
theorem V₂_ne (c : Dev nD) (b : DevRef τ sig) (h : b ≠ Proc.devRef .tc main_v2) : V₂ m c b = V₁ m c b := Function.update_of_ne h ..

def bufs : Finset (DevRef τ sig) := (StableHlo.tcRefs τ sig).filter fun b => ¬ b.isScoped
theorem bufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl
theorem held_out (c : Dev nD) (W : Valuation τ sig (Elt F)) : (StableHlo.held (c : Thread nD τ) {Proc.devRef .tc main_v2} W : sProp 𝕄)
    = ((c : Thread nD τ).loc main_v2 ↦{fullShare} W (Proc.devRef .tc main_v2)) := by
  unfold StableHlo.held
  rw [BI.bigSep_singleton]

/-! ## The kernel as a pipeline of one point -/

abbrev adm : (p : Fin 1) → (pcfgs (F := F) p).Adm := fun p => (cfgs p).toPCfg_adm

/-- Before the point: the protocol's resources and the buffers; after it: the semaphores at zero and the result. -/
def before (c : Dev nD) : sProp 𝕄 :=
  iprop(opened (blks m) (resOf (blks m)) c ∗ work c ∗ (∃ f, (c : Thread nD τ).loc main_v2 ↦{fullShare} f) ∗ ∃ r, prngReg c r)
def after (c : Dev nD) : sProp 𝕄 :=
  iprop((semVal (barCell c) 0 ∗ (bigSep Finset.univ fun y : Slot => semVal (scCell (c, y)) 0) ∗ spare c) ∗ work c
    ∗ ((c : Thread nD τ).loc main_v2 ↦{fullShare} (result m c : S1024x1024.Idx → Elt F .f32)) ∗ ∃ r, prngReg c r)

def dat (c : Dev nD) : Dat τ (Elt F) Unit ℕ UU ℕ cfg0 c where
  A w := V₁ m c (Proc.devRef .tc (Pipeline.arrRef spec0 w))
  after w _ := match w with
    | ⟨0, _⟩ => (table : S16x2.Idx → Elt F .i32)
    | ⟨1, _⟩ => xT m c
    | ⟨2, _⟩ => wB m c
  Φ t := if t.val = 0 then before m c else after m c
  q _ := fullShare
  owed t := if t.val = 0 then O₀ c else 0
def pdats : (p : Fin 1) → (c : Dev nD) → Dat τ (Elt F) Unit ℕ UU ℕ (Pipeline.pin (pcfgs (F := F)) adm p) c := fun _ => dat m

theorem found_0 (c : Dev nD) (d) : (dat m c).before (0 : Fin 3) t0_0 d = (table : S16x2.Idx → Elt F .i32) := by
  unfold Dat.before
  rw [if_pos (fetch0_0 _)]
  refine Eq.trans ?_ (V₁_table m c)
  funext i
  refine congrArg (V₁ m c (Proc.devRef .tc main_c)) (funext fun a => Fin.ext ?_)
  show 0 * _ + 1 * (i a).val = (i a).val
  omega
theorem found_1 (c : Dev nD) (d) : (dat m c).before (1 : Fin 3) t0_0 d = xT m c := by
  unfold Dat.before
  rw [if_pos (fetch0_1 _)]
  refine Eq.trans ?_ (V₁_x m c)
  funext i
  refine congrArg (V₁ m c (Proc.devRef .tc main_v1)) (funext fun a => Fin.ext ?_)
  show 0 * _ + 1 * (i a).val = (i a).val
  omega
theorem found_2 (c : Dev nD) (d) : (dat m c).before (2 : Fin 3) t0_0 d = wB m c := by
  unfold Dat.before
  rw [if_pos (fetch0_2 _)]
  refine Eq.trans ?_ (V₁_w m c)
  funext i
  refine congrArg (V₁ m c (Proc.devRef .tc main_arg1)) (funext fun a => Fin.ext ?_)
  show 0 * _ + 1 * (i a).val = (i a).val
  omega

theorem owed_zero (c : Dev nD) : (pdats (F := F) m 0 c).owed 0 = O₀ c := by
  show (if ((0 : Fin (cfg0.N + 1)).val = 0) then O₀ c else 0) = O₀ c; exact if_pos rfl
theorem owed_first (c : Dev nD) : (dat (F := F) m c).owed t0_0.castSucc = O₀ c := by
  show (if ((t0_0.castSucc : Fin (cfg0.N + 1)).val = 0) then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem owes_in {c : Dev nD} (D : Dat τ (Elt F) Unit ℕ UU ℕ cfg0 c) (t : Fin (cfg0.N + 1)) (O : CellTallies nD τ sig Unit)
    (h0 : D.owed t = O) (hr : D.recorded t = Set.univ) :
    (iprop(∃ W, owes (c : Thread nD τ) O W) : sProp 𝕄) ⊢ (D.owesAt () t : sProp 𝕄) := by
  unfold Dat.owesAt Pipeline.owesWithin Dat.bound
  rw [h0, hr]
  iintro ⟨%W, HO⟩
  iexists W
  isplitr; · ipureintro; exact fun _ _ => Or.inl trivial
  iexact HO
theorem owes_out {c : Dev nD} (D : Dat τ (Elt F) Unit ℕ UU ℕ cfg0 c) (t : Fin (cfg0.N + 1)) (O : CellTallies nD τ sig Unit)
    (h0 : D.owed t = O) :
    (D.owesAt () t : sProp 𝕄) ⊢ iprop(∃ W, owes (c : Thread nD τ) O W) := by
  unfold Dat.owesAt Pipeline.owesWithin
  rw [h0]
  iintro ⟨%W, -, HO⟩
  iexists W
  iexact HO

theorem W0 (Φ : Fin cfg0.W → sProp 𝕄) : bigSep Finset.univ Φ = iprop(Φ (0 : Fin 3) ∗ Φ (1 : Fin 3) ∗ Φ (2 : Fin 3)) := bigSep_W0 Φ

/-- A staging buffer, whole, at given contents. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))
def pointPre (c : Dev nD) : sProp 𝕄 :=
  iprop(before m c ∗ (dat m c).owesAt () t0_0.castSucc
    ∗ (∃ d, stg c cc0_stg0_0 ((dat m c).before (0 : Fin 3) t0_0 d))
    ∗ (∃ d, stg c cc0_stg1_0 ((dat m c).before (1 : Fin 3) t0_0 d))
    ∗ (∃ d, stg c cc0_stg2_0 ((dat m c).before (2 : Fin 3) t0_0 d)))
def pointPost (c : Dev nD) : sProp 𝕄 :=
  iprop(after m c ∗ (dat m c).owesAt () t0_0.succ
    ∗ stg c cc0_stg0_0 (table : S16x2.Idx → Elt F .i32) ∗ stg c cc0_stg1_0 (xT m c) ∗ stg c cc0_stg2_0 (wB m c))

theorem point (c : Dev nD) : pointPre m c
    ⊢ wp frame (wpE (defs₀ (F := F)) 𝒱₀ (c : Thread nD τ) none) Set.univ (at_ (cc0_body (F := F))) (fun _ => pointPost m c) := by
  unfold pointPre before opened
  iintro ⟨⟨⟨⟨%K, Hrec⟩, Htalk, Hsp⟩, Hwork, Hout, Hp⟩, HO, ⟨%d0, %f0, %h0, H0⟩, ⟨%d1, %f1, %h1, H1⟩, ⟨%d2, %f2, %h2, H2⟩⟩
  rw [found_0] at h0
  rw [found_1] at h1
  rw [found_2] at h2
  subst h0 h1 h2
  iapply (run_body (blks m) K (wB m c) c rfl (fun _ => pointPost m c)) $$ [Hrec Htalk Hwork Hout HO H0 H1 H2]
  · isplitl [Hrec]; · iexact Hrec
    isplitl [Htalk]; · iexact Htalk
    isplitl [HO]; · iapply (owes_out (dat m c) _ (O₀ c) (owed_first m c)) $$ HO
    isplitl [H0 H1 H2]
    · unfold inputs
      isplitl [H0]; · iexact H0
      isplitl [H1]; · iexact H1
      iexact H2
    isplitl [Hwork]; · iexact Hwork
    iexact Hout
  iintro ⟨HO, ⟨Hb, Hs⟩, Hin, Hwork, Hout⟩
  unfold inputs pointPost after
  icases Hin with ⟨H0, H1, H2⟩
  isplitl [Hb Hs Hsp Hwork Hout Hp]
  · isplitl [Hb Hs Hsp]
    · isplitl [Hb]; · iexact Hb
      isplitl [Hs] <;> iassumption
    isplitl [Hwork]; · iexact Hwork
    isplitl [Hout]; · iexact Hout
    iexact Hp
  isplitl [HO]; · iapply (owes_in (dat m c) t0_0.succ 0 (owed_last m c) rfl) $$ HO
  isplitl [H0]
  · iexists _; isplitr; · (ipureintro; rfl)
    iexact H0
  isplitl [H1]
  · iexists _; isplitr; · (ipureintro; rfl)
    iexact H1
  iexists _; isplitr; · (ipureintro; rfl)
  iexact H2

theorem body (c : Dev nD) : BodyObligation (dat (F := F) m c) defs₀ 𝒱₀ () Set.univ := fun t => by
  obtain rfl := fin_N0 t
  rw [W0, W0]
  simp only [owns_whole_eq]
  exact point m c

/-! ## The program's two segments -/

theorem ops_in : ∀ op ∈ (hostOps0 : List (HloOp τ sig (Elt F))), op.bufs ⊆ bufs := fun op h => by
  simp only [hostOps0, List.mem_cons, List.not_mem_nil, or_false] at h
  rcases h with rfl | rfl
  · show ({Proc.devRef .tc main_c} : Finset (DevRef τ sig)) ⊆ bufs; decide
  · show ({Proc.devRef .tc main_arg0, Proc.devRef .tc main_v1} : Finset (DevRef τ sig)) ⊆ bufs; decide
theorem ops_fresh : ∀ op ∈ (hostOps0 : List (HloOp τ sig (Elt F))), op.fresh = ∅ := List.forall_iff_forall_mem.mp hostOps0_fresh

/-- What rides beside the buffers up to the kernel. -/
def beside (c : Dev nD) : sProp 𝕄 :=
  iprop((kept (blks m) (resOf (blks m)) c ∗ ∃ r, prngReg c r) ∗ ∃ W, owes (c : Thread nD τ) (O₀ c) W)

/-- The host's operations. -/
def host : Pipeline.HostSeg (Name := ℕ) (U := UU) (pcfgs (F := F)) defs₀ 𝒱₀ L lv :=
  Pipeline.HostSeg.ofOps _ _ _ _ _ bufs hostOps0 ops_in ops_fresh (V₀ m) (beside m)

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem O₀_pos {c : Dev nD} {g : GSem nD τ sig} {u : Unit} (h : 0 < O₀ c g u) : (∃ x p, g = rCell p x) ∨ ∃ p, g = barCell p := by
  have hb : ∀ p : Dev nD, 0 < tallyAt (barCell p) () 1 g u → g = barCell p := fun p hp => by
    by_contra hg
    rw [tallyAt_apply, if_neg (fun e => hg e.1)] at hp
    exact absurd hp (Nat.lt_irrefl 0)
  unfold O₀ at h
  rw [Pi.add_apply, Pi.add_apply, Finsupp.add_apply, Finsupp.add_apply] at h
  rcases Nat.add_pos_iff_pos_or_pos.mp h with h | h
  · rcases Nat.add_pos_iff_pos_or_pos.mp h with h | h
    · obtain ⟨x, p, -, e⟩ := owed_pos h
      exact .inl ⟨x, p, e⟩
    · exact .inr ⟨_, hb _ h⟩
  · exact .inr ⟨_, hb _ h⟩

theorem cut (c : Dev nD) (t : Fin (cfg0.N + 1)) (g : GSem nD τ sig) (i : Unit) (h : 0 < (dat (F := F) m c).owed t g i) :
    i ∈ L g ∧ (0 : ℕ) < lv g i := by
  have e : (dat (F := F) m c).owed t = if t.val = 0 then O₀ c else 0 := rfl
  rw [e] at h
  split at h
  · rcases O₀_pos h with ⟨x, p, rfl⟩ | ⟨p, rfl⟩
    · exact ⟨by rw [L_tc]; exact Finset.mem_singleton_self _, by rw [lv_r]; omega⟩
    · exact ⟨by rw [L_tc]; exact Finset.mem_singleton_self _, by rw [lv_bar]; omega⟩
  · exact absurd h (Nat.lt_irrefl 0)

theorem stage_role (w : Fin cfg0.W) (s : Fin (cfg0.win w).nbuf) : role (.dma ((cfg0.win w).sem s)) = .idle := by
  revert w; decide +kernel
/-- The staging semaphores are below everything a device owes. -/
theorem stage_level (c : Dev nD) (w : Fin cfg0.W) (s : Fin (cfg0.win w).nbuf) : lv ((c : Thread nD τ), .dma ((cfg0.win w).sem s)) () ≤ 0 :=
  Nat.le_of_eq (by unfold lv; rw [stage_role w s])

theorem hin (c : Dev nD) : iprop(Pipeline.scopedRest spec0 c ∗ (∃ r, prngReg c r)
      ∗ StableHlo.held (c.tc : Thread nD τ) {Proc.devRef .tc main_v2} (V₁ m c) ∗ opened (blks m) (resOf (blks m)) c)
    ⊢ (dat m c).Φ 0 := by
  rw [show (dat m c).Φ 0 = before m c from rfl, scopedRest0_eq, held_out]
  unfold before work
  iintro ⟨Hw, Hp, Hv, Ho⟩
  isplitl [Ho]; · iexact Ho
  isplitl [Hw]; · iexact Hw
  isplitl [Hv]; · iexists _; iexact Hv
  iexact Hp

/-- A device's barrier, back at zero. -/
def barZero (c : Dev nD) : sProp 𝕄 := semVal (barCell c) 0

theorem hout (c : Dev nD) : (dat m c).Φ (Fin.last cfg0.N)
    ⊢ iprop(Pipeline.scopedRest spec0 c ∗ (∃ r, prngReg c r)
      ∗ StableHlo.held (c.tc : Thread nD τ) {Proc.devRef .tc main_v2} (V₂ m c) ∗ Pipeline.ownSems0 ownSem c ∗ barZero c) := by
  rw [show (dat m c).Φ (Fin.last cfg0.N) = after m c from rfl, scopedRest0_eq, held_out, own_sems, V₂_out]
  unfold after work barZero
  iintro ⟨⟨Hb, Hs, Hsp⟩, Hw, Hv, Hp⟩
  isplitl [Hw]; · iexact Hw
  isplitl [Hp]; · iexact Hp
  isplitl [Hv]; · iexact Hv
  isplitl [Hs Hsp]; · isplitl [Hs] <;> iassumption
  iexact Hb

theorem own_facts : Pipeline.OwnSemFacts spec0 ownSem := by decide +kernel

/-- The buffers that are no window's array. -/
def others : Finset (DevRef τ sig) := bufs \ Pipeline.arrRefs spec0
theorem out_mem : ({Proc.devRef .tc main_v2} : Finset (DevRef τ sig)) ⊆ others := by decide
theorem arrs_sub : (Pipeline.arrRefs spec0 : Finset (DevRef τ sig)) ⊆ bufs := by decide

theorem arr_ne (w : Fin 3) : (Proc.devRef .tc (Pipeline.arrRef spec0 w) : DevRef τ sig) ≠ Proc.devRef .tc main_v2 := by
  revert w; decide
theorem share_full (c : Dev nD) (w : Fin cfg0.W) : (dat m c).share w = fullShare := by unfold Dat.share; split <;> rfl
theorem arr_end (c : Dev nD) (w : Fin cfg0.W) : (dat m c).arrAt w cfg0.N = V₂ m c (Proc.devRef .tc (Pipeline.arrRef spec0 w)) := by
  have h : (cfg0.win w).isOut = false := by revert w; decide
  rw [V₂_ne m c _ (arr_ne w)]
  exact (dat m c).arrAt_in w h _

set_option backward.isDefEq.respectTransparency.types false in
/-- The kernel's region. -/
def region : Pipeline.RegionSeg (pcfgs (F := F)) adm (pdats m) () defs₀ 𝒱₀ L lv 0 :=
  Pipeline.RegionSeg.ofTalk (pcfgs (F := F)) adm (pdats m) () defs₀ 𝒱₀ L lv 0 ownSem own_facts
    {Proc.devRef .tc main_v2} others out_mem kit rfl (fun c => (body m c).loose)
    (fun _ => 0) O₀ (fun c => (owed_zero m c).trans (zero_add _).symm) (owed_last m) (fun _ => rfl) (share_full m)
    (V₁ m) (V₂ m) (fun c b hb => V₂_ne m c b fun e => (Finset.mem_sdiff.mp hb).2 (Finset.mem_singleton.mpr e))
    (kept (blks m) (resOf (blks m))) barZero (opened (blks m) (resOf (blks m))) barZero (enter (blks m) (resOf (blks m))) (hin m) (hout m)
    (fun c => by iintro H; imodintro; iexact H)
    (fun _ => 0)
    ⟨fun c w s => by rw [L_tc]; exact Finset.mem_singleton_self _, stage_level, fun c t g i h => cut m c t g i h⟩
    (fun _ => iprop(emp))
    (fun _ w => rfl) (arr_end m)

def segs : List (Pipeline.Seg (pcfgs (F := F)) adm (pdats m) () defs₀ 𝒱₀ L lv) := [.host (host m), .region (region m)]
theorem main_eq (c : Dev nD) : main (F := F) c = Pipeline.Seg.run (segs m) :=
  main_segs adm (pdats m) () 𝒱₀ L lv (host m) (region m) rfl c

theorem region_pre (c : Dev nD) : iprop(StableHlo.held (c : Thread nD τ) bufs (V₁ m c) ∗ beside m c) ⊢ (region m).pre c := by
  show _ ⊢ iprop(StableHlo.held (c.tc : Thread nD τ) (Pipeline.arrRefs spec0) (V₁ m c) ∗ (∃ r, prngReg c r)
    ∗ (StableHlo.held (c.tc : Thread nD τ) others (V₁ m c) ∗ emp) ∗ kept (blks m) (resOf (blks m)) c
    ∗ ∃ Wd, owes (c : Thread nD τ) (0 + O₀ c) Wd)
  rw [zero_add, StableHlo.held_sub_split (c : Thread nD τ) arrs_sub]
  unfold beside others
  iintro ⟨⟨Ha, Hr⟩, ⟨HK, Hp⟩, HO⟩
  isplitl [Ha]; · iexact Ha
  isplitl [Hp]; · iexact Hp
  isplitl [Hr]
  · isplitl [Hr]; · iexact Hr
    iempintro
  isplitl [HK]; · iexact HK
  iexact HO

theorem region_post (c : Dev nD) : (region m).post c
    ⊢ iprop((StableHlo.held (c : Thread nD τ) bufs (V₂ m c) ∗ barZero c) ∗ ∃ W, owes (c : Thread nD τ) (0 : CellTallies nD τ sig Unit) W) := by
  show iprop(StableHlo.held (c.tc : Thread nD τ) (Pipeline.arrRefs spec0) (V₂ m c) ∗ (∃ r, prngReg c r)
    ∗ (StableHlo.held (c.tc : Thread nD τ) others (V₂ m c) ∗ emp) ∗ barZero c
    ∗ ∃ Wd, owes (c : Thread nD τ) (0 : CellTallies nD τ sig Unit) Wd) ⊢ _
  rw [StableHlo.held_sub_split (c : Thread nD τ) arrs_sub (V₂ m c)]
  unfold others
  iintro ⟨Ha, -, ⟨Hr, -⟩, Hb, HO⟩
  isplitr [HO]
  · isplitl [Ha Hr]; · isplitl [Ha] <;> iassumption
    iexact Hb
  iexact HO

/-! ## The launch -/

/-- The ghost state at the launch: the pipeline's own, and the protocol's. -/
def u₀ : UU :=
  (initOf (Pipeline.cells (Pipeline.pin (pcfgs (F := F)) adm) cellOf_inj) (Pipeline.launchToks (Pipeline.pin (pcfgs (F := F)) adm) cellOf_inj),
    launchOf barCells scCells allDuties)

/-- All of a resource on device 0, nothing on the others. -/
def onZero (P : sProp 𝕄) (c : Dev nD) : sProp 𝕄 := if c = 0 then P else iprop(emp)
theorem onZero_all (P : sProp 𝕄) : bigSep Finset.univ (onZero P) = P := by
  rw [bigSep_univ_at _ (0 : Dev nD), bigSep_congr (s := Finset.univ.erase (0 : Dev nD)) (Ψ := fun _ => (BI.emp : sProp 𝕄))
      fun c hc => by unfold onZero; rw [if_neg (Finset.ne_of_mem_erase hc)]; rfl, BI.bigSep_emp_const]
  unfold onZero
  rw [if_pos rfl]
  exact BI.equiv_iff.mp sep_emp
def ghost : Dev nD → sProp 𝕄 := onZero (BI.own (ER (launchOf barCells scCells allDuties)))
theorem ghost_all : bigSep Finset.univ (ghost (F := F)) = BI.own (ER (launchOf barCells scCells allDuties)) := onZero_all _

theorem unscoped_bar : (Finset.univ.filter fun sm : SemLoc sig => ¬ sm.isScoped .tc) = {SemLoc.reg barS} := by decide +kernel
theorem unscoped_sems (c : Dev nD) : (unscopedSems0 c : sProp 𝕄) = semVal (barCell c) 0 := by
  unfold unscopedSems0
  rw [unscoped_bar, BI.bigSep_singleton]
theorem unscoped_eq (sm : SemLoc sig) (h : sm.isScoped .tc = false) : sm = .reg barS := by
  have h' : sm ∈ (Finset.univ.filter fun sm : SemLoc sig => ¬ sm.isScoped .tc) := by
    rw [Finset.mem_filter]; exact ⟨Finset.mem_univ _, by rw [h]; decide⟩
  rw [unscoped_bar] at h'
  exact Finset.mem_singleton.mp h'

/-- What a device has at the launch that is not the protocol's ghost state. -/
def launched (c : Dev nD) : sProp 𝕄 :=
  iprop(StableHlo.held (c : Thread nD τ) bufs (V₀ m c) ∗ credits c ∗ owes (c : Thread nD τ) (O₀ c) ∅ ∗ ∃ r, prngReg c r)
/-- A device's state before the host's operations, -/
abbrev T₀ (c : Dev nD) : sProp 𝕄 := iprop(StableHlo.held (c : Thread nD τ) bufs (V₀ m c) ∗ beside m c)
/-- and at the end. -/
abbrev Tₙ (c : Dev nD) : sProp 𝕄 := iprop(StableHlo.held (c : Thread nD τ) bufs (V₂ m c) ∗ barZero c)

theorem launched_one (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ ghost c)
    ⊢ (iprop(launched m c ∗ (semVal (barCell c) 0 ∗ ghost c)) : sProp 𝕄) := by
  rw [show unscopedBufs c (fun b => m ((c : Thread nD τ).loc b)) = StableHlo.held (c : Thread nD τ) bufs (V₀ m c) from bufs_held c (V₀ m c),
    unscoped_sems]
  unfold launched
  iintro ⟨Hh, Hus, HO, Hcr, Hp, HG⟩
  isplitl [Hh HO Hcr Hp]
  · isplitl [Hh]; · iexact Hh
    isplitl [Hcr]; · iapply (credits_dealt (F := F) c) $$ Hcr
    isplitl [HO]; · iexact HO
    iexists (ρ c); iexact Hp
  isplitl [Hus] <;> iassumption

theorem T₀_intro (κ : GSem nD τ sig → ℕ) (c : Dev nD) : (iprop(records (blks m) (resOf (blks m)) κ ∗ (alone c ∗ launched m c)) : sProp 𝕄) ⊢ T₀ m c := by
  unfold launched T₀ beside kept
  iintro ⟨#HR, Ha, Hh, Hcr, HO, Hp⟩
  isplitl [Hh]; · iexact Hh
  isplitr [HO]
  · isplitr [Hp]
    · isplitr; · iexists κ; iexact HR
      isplitl [Ha] <;> iassumption
    iexact Hp
  iexists ∅; iexact HO

theorem bar_sems : bigSep Finset.univ (fun c : Dev nD => (semVal (barCell c) 0 : sProp 𝕄)) = bigSep barCells (fun g => (semVal g 0 : sProp 𝕄)) :=
  (bigSep_map (s := Finset.univ) barEmb (Φ := fun g : GSem nD τ sig => (semVal g 0 : sProp 𝕄))).symm
theorem bar_places : bigSep barCells (fun g => (atPos ER g 0 ∅ 0 : sProp 𝕄)) = bigSep Finset.univ (fun c : Dev nD => (atPos ER (barCell c) 0 ∅ 0 : sProp 𝕄)) :=
  bigSep_map (s := Finset.univ) barEmb (Φ := fun g : GSem nD τ sig => (atPos ER g 0 ∅ 0 : sProp 𝕄))
theorem open_rights : bigSep scCells (fun g => (openTok ER g : sProp 𝕄))
    = bigSep Finset.univ (fun c : Dev nD => bigSep Finset.univ fun y : Slot => openTok ER (scCell (c, y))) := by
  unfold scCells
  rw [bigSep_map, bigSep_univ_prod]
  rfl

theorem alone_all : (iprop((bigSep barCells fun g => atPos ER g 0 ∅ 0) ∗ (bigSep scCells fun g => openTok ER g)
      ∗ bigSep allDuties fun t => dutyTok ER t.1 t.2.1 t.2.2) : sProp 𝕄) ⊢ bigSep Finset.univ fun c : Dev nD => alone c := by
  have e : (bigSep Finset.univ fun c : Dev nD => (alone c : sProp 𝕄))
      = iprop((bigSep Finset.univ fun c : Dev nD => atPos ER (barCell c) 0 ∅ 0)
        ∗ (bigSep Finset.univ fun c : Dev nD => bigSep Finset.univ fun y : Slot => openTok ER (scCell (c, y))) ∗ bigSep Finset.univ fun c : Dev nD => tokens c) := by
    unfold alone; rw [bigSep_sep', bigSep_sep']
  rw [e, bar_places, open_rights]
  iintro ⟨A, B, C⟩
  isplitl [A]; · iexact A
  isplitl [B]; · iexact B
  iapply (tokens_dealt (F := F)) $$ C

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ ghost c)) ∗ levAts L lv)
      ⊢ (|={Set.univ}=> bigSep Finset.univ (T₀ m) : sProp 𝕄) := by
  have h1 : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ ghost c))
      ⊢ (iprop((bigSep Finset.univ fun c : Dev nD => launched m c)
        ∗ (bigSep Finset.univ fun c : Dev nD => semVal (barCell c) 0) ∗ bigSep Finset.univ (ghost (F := F))) : sProp 𝕄) := by
    rw [← bigSep_sep', ← bigSep_sep']
    exact bigSep_mono fun c _ => launched_one m ρ c
  have h2 (κ : GSem nD τ sig → ℕ) : (iprop(records (blks m) (resOf (blks m)) κ ∗ (bigSep Finset.univ fun c : Dev nD => alone c)
      ∗ bigSep Finset.univ fun c : Dev nD => launched m c) : sProp 𝕄) ⊢ bigSep Finset.univ (T₀ m) := by
    rw [← bigSep_sep']
    exact bigSep_with_persistent fun c _ => T₀_intro m κ c
  iintro ⟨H, -⟩
  ihave H1 := h1 $$ H
  icases H1 with ⟨HB, Hv, HG⟩
  ihave Hu := (Entails.of_eq (ghost_all (F := F))) $$ HG
  ihave Hv' := (Entails.of_eq (bar_sems (F := F))) $$ Hv
  imod (Rounds.fund_launch ER (rd (blks m) (resOf (blks m))) disjoint_cells (fun g _ h => h) allDuties) $$ [Hv' Hu] with ⟨%κ, -, #Hinv, #Hr, Hat, Hopen, Htok⟩
  · isplitl [Hv'] <;> iassumption
  imodintro
  iapply (h2 κ)
  isplitr
  · unfold records
    isplitr; · iexact Hinv
    iexact Hr
  isplitl [Hat Hopen Htok]
  · iapply (alone_all (F := F))
    isplitl [Hat]; · iexact Hat
    isplitl [Hopen] <;> iassumption
  iexact HB

/-! ## The run -/

/-- Three of a device's buffers, out of all. -/
theorem read_bufs (c : Dev nD) (W : Valuation τ sig (Elt F)) : (StableHlo.held (c : Thread nD τ) bufs W : sProp 𝕄)
    ⊢ iprop(((c : Thread nD τ).loc main_arg0 ↦{fullShare} W (Proc.devRef .tc main_arg0)) ∗ ((c : Thread nD τ).loc main_arg1 ↦{fullShare} W (Proc.devRef .tc main_arg1))
      ∗ ((c : Thread nD τ).loc main_v2 ↦{fullShare} W (Proc.devRef .tc main_v2))) := by
  have e : (StableHlo.held (c : Thread nD τ) ({Proc.devRef .tc main_arg0, Proc.devRef .tc main_arg1, Proc.devRef .tc main_v2} : Finset (DevRef τ sig)) W : sProp 𝕄)
      = iprop(((c : Thread nD τ).loc main_arg0 ↦{fullShare} W (Proc.devRef .tc main_arg0)) ∗ ((c : Thread nD τ).loc main_arg1 ↦{fullShare} W (Proc.devRef .tc main_arg1))
      ∗ ((c : Thread nD τ).loc main_v2 ↦{fullShare} W (Proc.devRef .tc main_v2))) := by
    unfold StableHlo.held
    rw [bigSep_eq_bigSepL_of_eq [Proc.devRef .tc main_arg0, Proc.devRef .tc main_arg1, Proc.devRef .tc main_v2] (by decide) (by decide)]
    rfl
  rw [← e]
  unfold StableHlo.held
  exact BI.bigSep_subset (by decide)

set_option backward.isDefEq.respectTransparency.types false in
/-- The run: from any memory, every execution ends; every device's arguments are unchanged, its result is `result`, and
every semaphore is at zero. -/
theorem run : θ_run defs (onTc (τ := τ) (main (F := F))) (⟨m, fun _ => 0, ρ⟩ : MemSt nD τ sig (Elt F))
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = result m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := ghost) (u₀ := u₀ (F := F))
    (hu₀ := by
      unfold u₀
      iintro Hu
      ihave H := (ownU_pair _ _) $$ Hu
      icases H with ⟨HP, HX⟩
      imodintro
      isplitl [HP]; · iexact HP
      rw [ghost_all]; iexact HX)
    (T₀ := T₀ m) (Tₙ := Tₙ m)
    (hch := ⟨fun c => .rfl, fun c => region_pre m c, fun c => region_post m c⟩)
    (hinit := init m ρ)
    (QY := fun c s => (s.mem ((c : Thread nD τ).loc main_arg0) = V₂ m c (Proc.devRef .tc main_arg0)
        ∧ s.mem ((c : Thread nD τ).loc main_arg1) = V₂ m c (Proc.devRef .tc main_arg1)
        ∧ s.mem ((c : Thread nD τ).loc main_v2) = V₂ m c (Proc.devRef .tc main_v2)) ∧ s.sem (barCell c) = 0)
    (hfin := fun c s' => by
      dsimp only [Tₙ]
      unfold barZero
      iintro ⟨⟨Hh, Hb⟩, HSI⟩
      ihave H := (read_bufs (F := F) c (V₂ m c)) $$ Hh
      icases H with ⟨Hx, Hw, Hv⟩
      icombine HSI Hx gives %hx
      icombine HSI Hw gives %hw
      icombine HSI Hv gives %hv
      icombine HSI Hb gives %hb
      imodintro
      isplitr
      · ipureintro
        exact ⟨⟨Buf.eq_of_forall_mem_univ hx, Buf.eq_of_forall_mem_univ hw, Buf.eq_of_forall_mem_univ hv⟩, by simpa using hb⟩
      iexact HSI)
    (hQ := fun s h hs => ⟨fun c => by
        obtain ⟨⟨hx, hw, hv⟩, -⟩ := h c
        rw [V₂_ne m c _ (by decide), V₁_arg0] at hx
        rw [V₂_ne m c _ (by decide), V₁_w] at hw
        rw [V₂_out] at hv
        exact ⟨hx, hw, hv⟩,
      sem_eq_zero hs fun c sm hsm => by
        obtain rfl := unscoped_eq sm hsm
        exact (h c).2⟩)

end Cert.KernelIdeal.Around

end
-- ==== Proof.Value.lean ====
/-
The value of the result on the extended reals: a device's accumulators collect the products of all sixteen pairs of
blocks, each once, which together are the whole product; so the result is the reference's.
-/
module

public import proofs.«01_k».proof.Proof.KernelIdeal.Launch
public import proofs.«01_k».proof.Proof.Gen.ReferenceIdeal.Run
public import Idealize.ShloMosaic.Lib.Layout
public import Idealize.ShloMosaic.Lib.Pointwise

@[expose] public section

set_option maxRecDepth 16384

noncomputable section

namespace Cert.Value

open Cert.KernelIdeal Cert.KernelIdeal.Gen Cert.KernelIdeal.Around
open Idealize.ShloMosaic Idealize.ShloMosaic.TcCoe Idealize.SL.Sem

/-! ## The products, at an element -/

theorem own_product (x : Vec Ideal S64x1024 .bf16) (w : Vec Ideal S64x512 .bf16) (a : Fin 1024) (b : Fin 512) :
    k0_pay2 x w (ix2 a b) = ∑ k : Fin 64, (x (ix2 k a) : EReal) * w (ix2 k b) := by
  pointwise [k0_pay2]

theorem own_product' (x : Vec Ideal S64x1024 .bf16) (w : Vec Ideal S64x512 .bf16) (a : Fin 1024) (b : Fin 512) :
    k0_pay3 x w (ix2 a b) = ∑ k : Fin 64, (x (ix2 k a) : EReal) * w (ix2 k b) := by
  pointwise [k0_pay3]

theorem hop_product (acc : FVec Ideal S1024x512 .f32) (x : Vec Ideal S128x1024 .bf16) (w : Vec Ideal S128x512 .bf16) (a : Fin 1024) (b : Fin 512) :
    k0_pay4 acc x w (ix2 a b) = (acc (ix2 a b) : EReal) + ∑ k : Fin 128, (x (ix2 k a) : EReal) * w (ix2 k b) := by
  pointwise [k0_pay4]

theorem hop_product' (acc : FVec Ideal S1024x512 .f32) (x : Vec Ideal S128x1024 .bf16) (w : Vec Ideal S128x512 .bf16) (a : Fin 1024) (b : Fin 512) :
    k0_pay5 acc x w (ix2 a b) = (acc (ix2 a b) : EReal) + ∑ k : Fin 128, (x (ix2 k a) : EReal) * w (ix2 k b) := by
  pointwise [k0_pay5]

theorem last_product (acc : FVec Ideal S1024x512 .f32) (x : Vec Ideal S64x1024 .bf16) (w : Vec Ideal S64x512 .bf16) (a : Fin 1024) (b : Fin 512) :
    k0_pay18 acc x w (ix3 0 a b) = max ((acc (ix2 a b) : EReal) + ∑ k : Fin 64, (x (ix2 k a) : EReal) * w (ix2 k b)) 0 := by
  pointwise [k0_pay18]

theorem last_product' (acc : FVec Ideal S1024x512 .f32) (x : Vec Ideal S64x1024 .bf16) (w : Vec Ideal S64x512 .bf16) (a : Fin 1024) (b : Fin 512) :
    k0_pay19 acc x w (ix3 0 a b) = max ((acc (ix2 a b) : EReal) + ∑ k : Fin 64, (x (ix2 k a) : EReal) * w (ix2 k b)) 0 := by
  pointwise [k0_pay19]

/-! ## What is collected -/

variable (blk : Blocks Ideal)

/-- The product of the blocks of device `d`, at an element. -/
def term (d : Dev nD) (a b : Fin 1024) : EReal := ∑ k : Fin 64, (blk 0 d (ix2 k a) : EReal) * blk 1 d (ix2 k b)

/-- The column `b` of half `i`. -/
def col (i : Fin 2) (b : Fin 512) : Fin 1024 := ⟨512 * i.val + b.val, by omega⟩
/-- Half `i` of an accumulator. -/
def sel (i : Fin 2) (p : Acc Ideal × Acc Ideal) : Acc Ideal := match i with | 0 => p.1 | 1 => p.2

theorem own_rows (k : Fin 64) (a : Fin 1024) : ownRows.emb (ix2 k a : S64x1024.Idx) = ix2 k a := by
  funext x; refine Fin.ext ?_
  match x with
  | 0 => show 0 + 1 * k.val = k.val; omega
  | 1 => show 0 + 1 * a.val = a.val; omega
theorem own_cols (i : Fin 2) (k : Fin 64) (b : Fin 512) : (ownCols i).emb (ix2 k b : S64x512.Idx) = ix2 k (col i b) := by
  funext x; refine Fin.ext ?_
  match x with
  | 0 => show 0 + 1 * k.val = k.val; omega
  | 1 => show 512 * i.val + 1 * b.val = 512 * i.val + b.val; omega

/-- Row `r` of a gather buffer, column `b`. -/
theorem G_at (s : Fin 2) (c : Dev nD) (r : Fin 960) (b : Fin 1024) :
    G blk s c (ix2 r b) = blk s (back ⟨r.val / 64 % 2, Nat.mod_lt _ (by decide)⟩ (r.val / 128 + 1) c) (ix2 ⟨r.val % 64, Nat.mod_lt _ (by decide)⟩ b) := by
  have e1 : dir (s, rowTile (ix2 r b)) = ⟨r.val / 64 % 2, Nat.mod_lt _ (by decide)⟩ := Fin.ext (by
    show r.val / 32 / 2 % 2 = r.val / 64 % 2; omega)
  have e2 : hop (s, rowTile (ix2 r b)) = r.val / 128 := by show r.val / 32 / 4 = _; omega
  have e3 : inBlk (ix2 r b) = ix2 ⟨r.val % 64, Nat.mod_lt _ (by decide)⟩ b := by
    funext x
    match x with
    | 0 => rfl
    | 1 => rfl
  unfold G
  rw [e1, e2, e3]

theorem hop_rows (h : Fin 7) (k : Fin 128) (a : Fin 1024) : (hopRows h).emb (ix2 k a : S128x1024.Idx) = ix2 ⟨128 * h.val + k.val, by omega⟩ a := by
  funext x; refine Fin.ext ?_
  match x with
  | 0 => show 128 * h.val + 1 * k.val = 128 * h.val + k.val; omega
  | 1 => show 0 + 1 * a.val = a.val; omega
theorem hop_cols (h : Fin 7) (i : Fin 2) (k : Fin 128) (b : Fin 512) :
    (hopCols h i).emb (ix2 k b : S128x512.Idx) = ix2 ⟨128 * h.val + k.val, by omega⟩ (col i b) := by
  funext x; refine Fin.ext ?_
  match x with
  | 0 => show 128 * h.val + 1 * k.val = 128 * h.val + k.val; omega
  | 1 => show 512 * i.val + 1 * b.val = 512 * i.val + b.val; omega
theorem last_rows (k : Fin 64) (a : Fin 1024) : lastRows.emb (ix2 k a : S64x1024.Idx) = ix2 ⟨896 + k.val, by omega⟩ a := by
  funext x; refine Fin.ext ?_
  match x with
  | 0 => show 896 + 1 * k.val = 896 + k.val; omega
  | 1 => show 0 + 1 * a.val = a.val; omega
theorem last_cols (i : Fin 2) (k : Fin 64) (b : Fin 512) : (lastCols i).emb (ix2 k b : S64x512.Idx) = ix2 ⟨896 + k.val, by omega⟩ (col i b) := by
  funext x; refine Fin.ext ?_
  match x with
  | 0 => show 896 + 1 * k.val = 896 + k.val; omega
  | 1 => show 512 * i.val + 1 * b.val = 512 * i.val + b.val; omega

/-- The rows of one hop: the block from the left, then the one from the right. -/
theorem hop_sum (c : Dev nD) (h : Fin 7) (a b : Fin 1024) :
    ∑ k : Fin 128, (G blk 0 c (ix2 ⟨128 * h.val + k.val, by omega⟩ a) : EReal) * G blk 1 c (ix2 ⟨128 * h.val + k.val, by omega⟩ b)
      = term blk (back 0 (h.val + 1) c) a b + term blk (back 1 (h.val + 1) c) a b := by
  rw [Fin.sum_univ_two_halves 64 64 rfl]
  unfold term
  congr 1
  · refine Finset.sum_congr rfl fun k _ => ?_
    rw [G_at, G_at]
    have e0 : (⟨(128 * h.val + k.val) / 64 % 2, Nat.mod_lt _ (by decide)⟩ : Fin 2) = 0 := Fin.ext (by show _ = 0; simp only; omega)
    have e1 : (128 * h.val + k.val) / 128 = h.val := by omega
    have e2 : (⟨(128 * h.val + k.val) % 64, Nat.mod_lt _ (by decide)⟩ : Fin 64) = k := Fin.ext (by show (128 * h.val + k.val) % 64 = k.val; omega)
    simp only [e0, e1, e2]
  · refine Finset.sum_congr rfl fun k _ => ?_
    rw [G_at, G_at]
    have e0 : (⟨(128 * h.val + (64 + k.val)) / 64 % 2, Nat.mod_lt _ (by decide)⟩ : Fin 2) = 1 := Fin.ext (by show _ = 1; simp only; omega)
    have e1 : (128 * h.val + (64 + k.val)) / 128 = h.val := by omega
    have e2 : (⟨(128 * h.val + (64 + k.val)) % 64, Nat.mod_lt _ (by decide)⟩ : Fin 64) = k := Fin.ext (by show (128 * h.val + (64 + k.val)) % 64 = k.val; omega)
    simp only [e0, e1, e2]

theorem last_sum (c : Dev nD) (a b : Fin 1024) :
    ∑ k : Fin 64, (G blk 0 c (ix2 ⟨896 + k.val, by omega⟩ a) : EReal) * G blk 1 c (ix2 ⟨896 + k.val, by omega⟩ b) = term blk (back 0 8 c) a b := by
  unfold term
  refine Finset.sum_congr rfl fun k _ => ?_
  rw [G_at, G_at]
  have e0 : (⟨(896 + k.val) / 64 % 2, Nat.mod_lt _ (by decide)⟩ : Fin 2) = 0 := Fin.ext (by show _ = 0; simp only; omega)
  have e1 : (896 + k.val) / 128 = 7 := by omega
  have e2 : (⟨(896 + k.val) % 64, Nat.mod_lt _ (by decide)⟩ : Fin 64) = k := Fin.ext (by show (896 + k.val) % 64 = k.val; omega)
  simp only [e0, e1, e2]

theorem acc0_at (c : Dev nD) (i : Fin 2) (a : Fin 1024) (b : Fin 512) : sel i (acc0 blk c) (ix2 a b) = term blk c a (col i b) := by
  unfold acc0 term
  match i with
  | 0 => exact (own_product _ _ a b).trans (Finset.sum_congr rfl fun k _ => by rw [own_rows, own_cols])
  | 1 => exact (own_product' _ _ a b).trans (Finset.sum_congr rfl fun k _ => by rw [own_rows, own_cols])

theorem accHop_at (c : Dev nD) (h : Fin 7) (p : Acc Ideal × Acc Ideal) (i : Fin 2) (a : Fin 1024) (b : Fin 512) :
    sel i (accHop blk c h p) (ix2 a b)
      = (sel i p (ix2 a b) : EReal) + (term blk (back 0 (h.val + 1) c) a (col i b) + term blk (back 1 (h.val + 1) c) a (col i b)) := by
  rw [← hop_sum]
  unfold accHop
  match i with
  | 0 => exact (hop_product _ _ _ a b).trans (congrArg _ (Finset.sum_congr rfl fun k _ => by rw [hop_rows, hop_cols]))
  | 1 => exact (hop_product' _ _ _ a b).trans (congrArg _ (Finset.sum_congr rfl fun k _ => by rw [hop_rows, hop_cols]))

/-- The devices, in the order their blocks are multiplied on device `c`. -/
def order (c : Dev nD) : Fin 16 → Dev nD :=
  ![c, back 0 1 c, back 1 1 c, back 0 2 c, back 1 2 c, back 0 3 c, back 1 3 c, back 0 4 c, back 1 4 c, back 0 5 c, back 1 5 c,
    back 0 6 c, back 1 6 c, back 0 7 c, back 1 7 c, back 0 8 c]
/-- Each device comes once. -/
theorem order_bij (c : Dev nD) : Function.Bijective (order c) :=
  (Finite.injective_iff_bijective).mp (by revert c; decide +kernel)

theorem order_sum (c : Dev nD) (f : Dev nD → EReal) : ∑ d : Dev nD, f d = ∑ n : Fin 16, f (order c n) :=
  ((order_bij c).sum_comp f).symm

theorem out_at (c : Dev nD) (i : Fin 2) (a : Fin 1024) (b : Fin 512) :
    outPair blk c i (ix3 0 a b) = max (∑ d : Dev nD, term blk d a (col i b)) 0 := by
  have e : (sel i (acc7 blk c) (ix2 a b) : EReal) + term blk (back 0 8 c) a (col i b) = ∑ d : Dev nD, term blk d a (col i b) := by
    rw [order_sum c]
    unfold acc7 order
    simp only [accHop_at, acc0_at, Fin.sum_univ_succ, Finset.univ_eq_empty, Finset.sum_empty]
    simp [add_assoc]
  rw [← e, ← last_sum]
  match i with
  | 0 => exact (last_product _ _ _ a b).trans (by simp only [last_rows, last_cols]; rfl)
  | 1 => exact (last_product' _ _ _ a b).trans (by simp only [last_rows, last_cols]; rfl)

theorem result_at (c : Dev nD) (a b : Fin 1024) : out blk c (ix2 a b) = max (∑ d : Dev nD, term blk d a b) 0 := by
  have e : ∀ (i : Fin 2) (a : Fin 1024) (b : Fin 512), resOf blk i c (ix2 a b) = outPair blk c i (ix3 0 a b) := fun i a b => by
    unfold resOf
    congr 1
    pointwise
  have eb : col ⟨b.val / 512, by omega⟩ ⟨b.val % 512, Nat.mod_lt _ (by decide)⟩ = b := Fin.ext (by
    show 512 * (b.val / 512) + b.val % 512 = b.val; omega)
  have h : out blk c (ix2 a b) = resOf blk ⟨b.val / 512, by omega⟩ c (ix2 a ⟨b.val % 512, Nat.mod_lt _ (by decide)⟩) := by
    unfold out
    congr 1
    funext x
    match x with
    | 0 => rfl
    | 1 => rfl
  rw [h, e, out_at, eb]

/-! ## The reference -/

/-- The reference's result, of the whole operands. -/
def refOut (X W : FVec Ideal Cert.ReferenceIdeal.S1024x1024 .bf16) : FVec Ideal Cert.ReferenceIdeal.S1024x1024 .f32 :=
  maximumf (extf .f32 (truncf .bf16 (Host.dotGeneral Cert.ReferenceIdeal.dot_S1024x1024_S1024x1024_S1024x1024_1_0_0_1_n_n none X W)
      Cert.ReferenceIdeal.Facts₀.bitsLt_bf16_f32) Cert.ReferenceIdeal.Facts₀.bitsLt_bf16_f32)
    (broadcastInDim Cert.ReferenceIdeal.S1024x1024 ![] Cert.ReferenceIdeal.Facts₀.bcast_S_S1024x1024 (constant Cert.ReferenceIdeal.S_ .f32 0x00000000#32))

theorem refOut_at (X W : FVec Ideal Cert.ReferenceIdeal.S1024x1024 .bf16) (a b : Fin 1024) :
    refOut X W (ix2 a b) = max (∑ k : Fin 1024, (X (ix2 a k) : EReal) * W (ix2 k b)) 0 := by
  pointwise [refOut]

variable (m : (ℓ : Loc nD τ sig) → Buf (Elt Ideal) ℓ) (X W : FVec Ideal Cert.ReferenceIdeal.S1024x1024 .bf16)

/-- The devices' blocks being the operands', the result is the reference's. -/
theorem result_ref
    (hX : ∀ c : Dev nD, m ((c : Thread nD τ).loc main_arg0) = Layout.block ⟨2, ![1024, 64]⟩ ⟨2, ![1024, 1024]⟩ 1 16 c X)
    (hW : ∀ c : Dev nD, m ((c : Thread nD τ).loc main_arg1) = Layout.block ⟨2, ![64, 1024]⟩ ⟨2, ![1024, 1024]⟩ 0 16 c W) (c : Dev nD) :
    result m c = refOut X W := by
  have ex (d : Dev nD) (k : Fin 64) (a : Fin 1024) : blks m 0 d (ix2 k a) = X (ix2 a ⟨d.val * 64 + k.val, by have : d.val < 16 := d.isLt; omega⟩) := by
    show xT m d (ix2 k a) = _
    unfold xT
    rw [hX]
    pointwise
    rw [Layout.block_apply]
    congr 1
    funext x; refine Fin.ext ?_
    rw [Layout.Tiles.idx_val]
    match x with
    | 0 => rfl
    | 1 => rfl
  have ew (d : Dev nD) (k : Fin 64) (b : Fin 1024) : blks m 1 d (ix2 k b) = W (ix2 ⟨d.val * 64 + k.val, by have : d.val < 16 := d.isLt; omega⟩ b) := by
    show k0_pay1 (wB m d) (ix2 k b) = _
    unfold wB
    rw [hW]
    pointwise [k0_pay1]
    rw [Layout.block_apply]
    congr 1
    funext x; refine Fin.ext ?_
    rw [Layout.Tiles.idx_val]
    match x with
    | 0 => rfl
    | 1 => rfl
  funext j
  obtain ⟨a, b, rfl⟩ : ∃ (a b : Fin 1024), j = ix2 a b := ⟨j 0, j 1, eq_ix2 j⟩
  unfold result
  rw [result_at, refOut_at, Fin.sum_univ_tiles 16 64 rfl]
  unfold term
  simp only [ex, ew]

end Cert.Value

end
-- ==== Proof.lean ====
/-
The claims of this certificate, from the runs of the kernel (`Around.run`, once at each instance) and of the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, leaves its arguments as they were, and leaves every semaphore at zero. -/
theorem frame_p : Cert.quiescent_Kernel := fun m ρ _ =>
  (θ_run Cert.Kernel.defs _ _).mono (fun _ h => ⟨fun c => ⟨(h.1 c).1, (h.1 c).2.1⟩, h.2⟩) (Cert.Kernel.Around.run (F := Bits) m ρ)

/-- So does the kernel on the extended reals, -/
theorem frame_i : Cert.quiescent_KernelIdeal := fun m ρ _ =>
  (θ_run Cert.KernelIdeal.defs _ _).mono (fun _ h => ⟨fun c => ⟨(h.1 c).1, (h.1 c).2.1⟩, h.2⟩) (Cert.KernelIdeal.Around.run (F := Ideal) m ρ)

/-- and the reference, which has no semaphore. -/
theorem frame_r : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- No operation was rewritten for the extended reals. -/
theorem preserves : Cert.preserves_Kernel_KernelIdeal := trivial

/-- On the extended reals every device's result is the reference's, of the operands whose blocks the devices hold. -/
theorem algebraic : Cert.algebraic_KernelIdeal_ReferenceIdeal := fun m ρ m' ρ' _ h =>
  ⟨Cert.Value.refOut _ _,
    (θ_run Cert.KernelIdeal.defs _ _).mono (fun _ hr c =>
      ⟨(hr.1 c).2.2.trans (Cert.Value.result_ref m _ _ (fun c => (h c).1) (fun c => (h c).2) c), (hr.1 c).1, (hr.1 c).2.1⟩)
      (Cert.KernelIdeal.Around.run (F := Ideal) m ρ),
    (θ_run Cert.ReferenceIdeal.defs _ _).mono (fun _ hr => hr 0) (Cert.ReferenceIdeal.Value.run (F := Ideal) m' ρ')⟩

theorem claim : Cert.Claim :=
  ⟨Cert.Kernel.Gen.facts, Cert.KernelIdeal.Gen.facts, Cert.ReferenceIdeal.Gen.facts, frame_p, frame_i, frame_r, preserves, algebraic⟩

end Cert.Proof

end
